-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_heatmaps [hPre_finite_heatmaps : Cert.Pre_finite_heatmaps.Facts] (m : (ℓ : Loc Cert.KernelIdeal.nD Cert.KernelIdeal.τ Cert.KernelIdeal.sig) → Buf (Elt Ideal) ℓ) : Prop :=
  ∀ c : Dev Cert.KernelIdeal.nD,
    (Cert.Pre_finite_heatmaps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_heatmaps [hPre_finite_heatmaps : Cert.Pre_finite_heatmaps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_heatmaps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_heatmaps [hKernelIdeal : Cert.KernelIdeal.Facts] [hPre_finite_heatmaps : Cert.Pre_finite_heatmaps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_heatmaps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_heatmaps [hReferenceIdeal : Cert.ReferenceIdeal.Facts] [hPre_finite_heatmaps : Cert.Pre_finite_heatmaps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_heatmaps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_heatmaps [hKernelIdeal : Cert.KernelIdeal.Facts] [hReferenceIdeal : Cert.ReferenceIdeal.Facts] [hPre_finite_heatmaps : Cert.Pre_finite_heatmaps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_heatmaps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_heatmaps : Cert.Pre_finite_heatmaps.Facts),
    quiescent_Kernel (hKernel := hKernel)
    ∧ quiescent_KernelIdeal (hKernelIdeal := hKernelIdeal)
    ∧ quiescent_KernelIdeal_pre_finite_heatmaps (hKernelIdeal := hKernelIdeal) (hPre_finite_heatmaps := hPre_finite_heatmaps)
    ∧ quiescent_ReferenceIdeal (hReferenceIdeal := hReferenceIdeal)
    ∧ quiescent_ReferenceIdeal_pre_finite_heatmaps (hReferenceIdeal := hReferenceIdeal) (hPre_finite_heatmaps := hPre_finite_heatmaps)
    ∧ preserves_Kernel_KernelIdeal
    ∧ algebraic_KernelIdeal_ReferenceIdeal_pre_finite_heatmaps (hKernelIdeal := hKernelIdeal) (hReferenceIdeal := hReferenceIdeal) (hPre_finite_heatmaps := hPre_finite_heatmaps)
-- ==== Pre_finite_heatmaps.lean ====
abbrev S4096x28x14x14 : Shape := ⟨4, ![4096, 28, 14, 14]⟩
abbrev S4096x18x14x14 : Shape := ⟨4, ![4096, 18, 14, 14]⟩
abbrev S4096x14x2 : Shape := ⟨3, ![4096, 14, 2]⟩
abbrev S_ : Shape := ⟨0, ![]⟩

class Facts : Prop where
  bcast_S_S4096x18x14x14 : S_.BroadcastsInDim S4096x18x14x14 (![] : Fin 0 → Fin S4096x18x14x14.rank)

variable [Facts]

def fn {F : FTy → Type} [FloatOps F] (main_arg0 : FVec F S4096x28x14x14 .f32) (main_arg1 : FVec F S4096x18x14x14 .f32) (main_arg2 : FVec F S4096x14x2 .f32) (main_arg3 : FVec F S4096x14x2 .f32) : IVec S4096x18x14x14 1 :=
  let main_v0 : FVec F S4096x18x14x14 .f32 := Host.absf main_arg1
  let main_cst : FVec F S_ .f32 := constant S_ .f32 0x7F800000#32
  let main_v1 : FVec F S4096x18x14x14 .f32 := broadcastInDim S4096x18x14x14 ![] bcast_S_S4096x18x14x14 main_cst
  let main_v2 : IVec S4096x18x14x14 1 := cmpf .olt main_v0 main_v1
  main_v2
-- ==== Kernel.lean ====
abbrev S4096x28x14x14 : Shape := ⟨4, ![4096, 28, 14, 14]⟩
abbrev S4096x18x14x14 : Shape := ⟨4, ![4096, 18, 14, 14]⟩
abbrev S4096x14x2 : Shape := ⟨3, ![4096, 14, 2]⟩
abbrev S14x22 : Shape := ⟨2, ![14, 22]⟩
abbrev S18x14x14x4096 : Shape := ⟨4, ![18, 14, 14, 4096]⟩
abbrev S14x2x4096 : Shape := ⟨3, ![14, 2, 4096]⟩
abbrev S_ : Shape := ⟨0, ![]⟩
abbrev S14x14 : Shape := ⟨2, ![14, 14]⟩
abbrev S14x1x14x1 : Shape := ⟨4, ![14, 1, 14, 1]⟩
abbrev S1x14x1x14 : Shape := ⟨4, ![1, 14, 1, 14]⟩
abbrev S14x14x14x14 : Shape := ⟨4, ![14, 14, 14, 14]⟩
abbrev S14x16x14x16 : Shape := ⟨4, ![14, 16, 14, 16]⟩
abbrev S224x224 : Shape := ⟨2, ![224, 224]⟩
abbrev S224 : Shape := ⟨1, ![224]⟩
abbrev S1x224 : Shape := ⟨2, ![1, 224]⟩
abbrev S2x224 : Shape := ⟨2, ![2, 224]⟩
abbrev S226x224 : Shape := ⟨2, ![226, 224]⟩
abbrev S8x1x2 : Shape := ⟨3, ![8, 1, 2]⟩
abbrev S14x2x512 : Shape := ⟨3, ![14, 2, 512]⟩
abbrev S18x14x14x512 : Shape := ⟨4, ![18, 14, 14, 512]⟩
abbrev S1x1x2 : Shape := ⟨3, ![1, 1, 2]⟩
abbrev S224x512 : Shape := ⟨2, ![224, 512]⟩
abbrev S14x1x512 : Shape := ⟨3, ![14, 1, 512]⟩
abbrev S14x512 : Shape := ⟨2, ![14, 512]⟩
abbrev S1x512 : Shape := ⟨2, ![1, 512]⟩
abbrev S226x512 : Shape := ⟨2, ![226, 512]⟩
abbrev S14x16x512 : Shape := ⟨3, ![14, 16, 512]⟩
abbrev S14x14x512 : Shape := ⟨3, ![14, 14, 512]⟩
abbrev S1x14x14x512 : Shape := ⟨4, ![1, 14, 14, 512]⟩
abbrev S512 : Shape := ⟨1, ![512]⟩
abbrev S1x1x512 : Shape := ⟨3, ![1, 1, 512]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩

abbrev nBuf : Space → Nat
  | .hbm => 88
  | .vmem => 7
  | .smem => 2
  | _ => 0

abbrev bufTy : (tb : Table) → Fin (tcTables nBuf tb) → BufTy
  | .hbm, ⟨0, _⟩ => ⟨S4096x28x14x14, .f32⟩
  | .hbm, ⟨1, _⟩ => ⟨S4096x18x14x14, .f32⟩
  | .hbm, ⟨2, _⟩ => ⟨S4096x14x2, .f32⟩
  | .hbm, ⟨3, _⟩ => ⟨S4096x14x2, .f32⟩
  | .hbm, ⟨4, _⟩ => ⟨S14x22, .f32⟩
  | .hbm, ⟨5, _⟩ => ⟨S18x14x14x4096, .f32⟩
  | .hbm, ⟨6, _⟩ => ⟨S14x2x4096, .f32⟩
  | .hbm, ⟨7, _⟩ => ⟨S14x2x4096, .f32⟩
  | .hbm, ⟨8, _⟩ => ⟨S_, .f32⟩
  | .hbm, ⟨9, _⟩ => ⟨S14x14, .f32⟩
  | .hbm, ⟨10, _⟩ => ⟨S14x14, .f32⟩
  | .hbm, ⟨11, _⟩ => ⟨S_, .f32⟩
  | .hbm, ⟨12, _⟩ => ⟨S14x14, .f32⟩
  | .hbm, ⟨13, _⟩ => ⟨S14x14, .f32⟩
  | .hbm, ⟨14, _⟩ => ⟨S14x14, .f32⟩
  | .hbm, ⟨15, _⟩ => ⟨S14x14, .f32⟩
  | .hbm, ⟨16, _⟩ => ⟨S_, .f32⟩
  | .hbm, ⟨17, _⟩ => ⟨S14x14, .f32⟩
  | .hbm, ⟨18, _⟩ => ⟨S14x14, .f32⟩
  | .hbm, ⟨19, _⟩ => ⟨S14x14, .f32⟩
  | .hbm, ⟨20, _⟩ => ⟨S14x14, .f32⟩
  | .hbm, ⟨21, _⟩ => ⟨S_, .f32⟩
  | .hbm, ⟨22, _⟩ => ⟨S14x14, .f32⟩
  | .hbm, ⟨23, _⟩ => ⟨S14x14, .f32⟩
  | .hbm, ⟨24, _⟩ => ⟨S14x14, .f32⟩
  | .hbm, ⟨25, _⟩ => ⟨S14x14, .f32⟩
  | .hbm, ⟨26, _⟩ => ⟨S_, .f32⟩
  | .hbm, ⟨27, _⟩ => ⟨S14x14, .f32⟩
  | .hbm, ⟨28, _⟩ => ⟨S14x14, .f32⟩
  | .hbm, ⟨29, _⟩ => ⟨S14x14, .f32⟩
  | .hbm, ⟨30, _⟩ => ⟨S14x14, .f32⟩
  | .hbm, ⟨31, _⟩ => ⟨S_, .f32⟩
  | .hbm, ⟨32, _⟩ => ⟨S14x14, .f32⟩
  | .hbm, ⟨33, _⟩ => ⟨S14x14, .f32⟩
  | .hbm, ⟨34, _⟩ => ⟨S14x14, .f32⟩
  | .hbm, ⟨35, _⟩ => ⟨S14x14, .f32⟩
  | .hbm, ⟨36, _⟩ => ⟨S_, .f32⟩
  | .hbm, ⟨37, _⟩ => ⟨S14x14, .f32⟩
  | .hbm, ⟨38, _⟩ => ⟨S14x14, .f32⟩
  | .hbm, ⟨39, _⟩ => ⟨S14x14, .f32⟩
  | .hbm, ⟨40, _⟩ => ⟨S14x14, .f32⟩
  | .hbm, ⟨41, _⟩ => ⟨S_, .f32⟩
  | .hbm, ⟨42, _⟩ => ⟨S14x14, .f32⟩
  | .hbm, ⟨43, _⟩ => ⟨S14x14, .f32⟩
  | .hbm, ⟨44, _⟩ => ⟨S14x14, .f32⟩
  | .hbm, ⟨45, _⟩ => ⟨S14x14, .f32⟩
  | .hbm, ⟨46, _⟩ => ⟨S_, .f32⟩
  | .hbm, ⟨47, _⟩ => ⟨S14x14, .f32⟩
  | .hbm, ⟨48, _⟩ => ⟨S14x14, .f32⟩
  | .hbm, ⟨49, _⟩ => ⟨S14x14, .f32⟩
  | .hbm, ⟨50, _⟩ => ⟨S14x14, .f32⟩
  | .hbm, ⟨51, _⟩ => ⟨S_, .f32⟩
  | .hbm, ⟨52, _⟩ => ⟨S14x14, .f32⟩
  | .hbm, ⟨53, _⟩ => ⟨S14x14, .f32⟩
  | .hbm, ⟨54, _⟩ => ⟨S14x14, .f32⟩
  | .hbm, ⟨55, _⟩ => ⟨S14x14, .f32⟩
  | .hbm, ⟨56, _⟩ => ⟨S14x1x14x1, .f32⟩
  | .hbm, ⟨57, _⟩ => ⟨S14x14, .f32⟩
  | .hbm, ⟨58, _⟩ => ⟨S1x14x1x14, .f32⟩
  | .hbm, ⟨59, _⟩ => ⟨S14x14x14x14, .f32⟩
  | .hbm, ⟨60, _⟩ => ⟨S14x14x14x14, .f32⟩
  | .hbm, ⟨61, _⟩ => ⟨S14x14x14x14, .f32⟩
  | .hbm, ⟨62, _⟩ => ⟨S_, .i32⟩
  | .hbm, ⟨63, _⟩ => ⟨S_, .f32⟩
  | .hbm, ⟨64, _⟩ => ⟨S14x16x14x16, .f32⟩
  | .hbm, ⟨65, _⟩ => ⟨S224x224, .f32⟩
  | .hbm, ⟨66, _⟩ => ⟨S_, .f32⟩
  | .hbm, ⟨67, _⟩ => ⟨S224, .f32⟩
  | .hbm, ⟨68, _⟩ => ⟨S224x224, .f32⟩
  | .hbm, ⟨69, _⟩ => ⟨S_, .f32⟩
  | .hbm, ⟨70, _⟩ => ⟨S224, .f32⟩
  | .hbm, ⟨71, _⟩ => ⟨S1x224, .f32⟩
  | .hbm, ⟨72, _⟩ => ⟨S1x224, .f32⟩
  | .hbm, ⟨73, _⟩ => ⟨S2x224, .f32⟩
  | .hbm, ⟨74, _⟩ => ⟨S226x224, .f32⟩
  | .hbm, ⟨75, _⟩ => ⟨S226x224, .bf16⟩
  | .hbm, ⟨76, _⟩ => ⟨S8x1x2, .f32⟩
  | .hbm, ⟨77, _⟩ => ⟨S8x1x1, .f32⟩
  | .hbm, ⟨78, _⟩ => ⟨S8, .f32⟩
  | .hbm, ⟨79, _⟩ => ⟨S_, .f32⟩
  | .hbm, ⟨80, _⟩ => ⟨S_, .f32⟩
  | .hbm, ⟨81, _⟩ => ⟨S8x1x1, .f32⟩
  | .hbm, ⟨82, _⟩ => ⟨S8, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .local _ .vmem, ⟨0, _⟩ => ⟨S14x2x512, .f32⟩
  | .local _ .vmem, ⟨1, _⟩ => ⟨S14x2x512, .f32⟩
  | .local _ .vmem, ⟨2, _⟩ => ⟨S14x2x512, .f32⟩
  | .local _ .vmem, ⟨3, _⟩ => ⟨S14x2x512, .f32⟩
  | .local _ .vmem, ⟨4, _⟩ => ⟨S226x224, .bf16⟩
  | .local _ .vmem, ⟨5, _⟩ => ⟨S18x14x14x512, .f32⟩
  | .local _ .vmem, ⟨6, _⟩ => ⟨S18x14x14x512, .f32⟩
  | .local _ .smem, ⟨0, _⟩ => ⟨S1x1x2, .f32⟩
  | .local _ .smem, ⟨1, _⟩ => ⟨S1x1x2, .f32⟩
  | _, _ => ⟨S4096x28x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.hbm, 62, rfl⟩
abbrev main_call0_v0 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.smem, 0, rfl⟩
abbrev cc0_stg4_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S14x2x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S14x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S226x224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S18x14x14x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .smem S1x1x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x28x14x14 : Shape := ⟨4, ![4096, 28, 14, 14]⟩
abbrev S4096x18x14x14 : Shape := ⟨4, ![4096, 18, 14, 14]⟩
abbrev S4096x14x2 : Shape := ⟨3, ![4096, 14, 2]⟩
abbrev S_ : Shape := ⟨0, ![]⟩
abbrev S4096x14x1 : Shape := ⟨3, ![4096, 14, 1]⟩
abbrev S4096x14 : Shape := ⟨2, ![4096, 14]⟩
abbrev S4096x14x14x14 : Shape := ⟨4, ![4096, 14, 14, 14]⟩
abbrev S4096x14x1x1 : Shape := ⟨4, ![4096, 14, 1, 1]⟩
abbrev S4096x12x14x14 : Shape := ⟨4, ![4096, 12, 14, 14]⟩
abbrev S4096x4x3x14x14 : Shape := ⟨5, ![4096, 4, 3, 14, 14]⟩
abbrev S4096x4x14x14 : Shape := ⟨4, ![4096, 4, 14, 14]⟩
abbrev S4096x12 : Shape := ⟨2, ![4096, 12]⟩
abbrev S4096x4x3 : Shape := ⟨3, ![4096, 4, 3]⟩
abbrev S4096x4 : Shape := ⟨2, ![4096, 4]⟩
abbrev S4096x18 : Shape := ⟨2, ![4096, 18]⟩
abbrev S4096x18x1x14 : Shape := ⟨4, ![4096, 18, 1, 14]⟩
abbrev S4096x18x4x14 : Shape := ⟨4, ![4096, 18, 4, 14]⟩
abbrev S4096x18x18x14 : Shape := ⟨4, ![4096, 18, 18, 14]⟩
abbrev S4096x18x22x14 : Shape := ⟨4, ![4096, 18, 22, 14]⟩
abbrev S4096x18x14x1 : Shape := ⟨4, ![4096, 18, 14, 1]⟩
abbrev S4096x18x14x4 : Shape := ⟨4, ![4096, 18, 14, 4]⟩
abbrev S4096x18x14x18 : Shape := ⟨4, ![4096, 18, 14, 18]⟩
abbrev S4096x18x14x22 : Shape := ⟨4, ![4096, 18, 14, 22]⟩
abbrev S4096x18x1x1 : Shape := ⟨4, ![4096, 18, 1, 1]⟩

abbrev nBuf : Space → Nat
  | .hbm => 214
  | .vmem => 0
  | .smem => 0
  | _ => 0

abbrev hbmTy0_0 (i : Nat) : BufTy := match i % 128 with
  | 0 => ⟨S4096x28x14x14, .f32⟩
  | 1 => ⟨S4096x18x14x14, .f32⟩
  | 2 => ⟨S4096x14x2, .f32⟩
  | 3 => ⟨S4096x14x2, .f32⟩
  | 4 => ⟨S_, .f32⟩
  | 5 => ⟨S4096x14x2, .f32⟩
  | 6 => ⟨S4096x14x2, .f32⟩
  | 7 => ⟨S4096x14x1, .f32⟩
  | 8 => ⟨S4096x14, .f32⟩
  | 9 => ⟨S4096x14, .i32⟩
  | 10 => ⟨S_, .i32⟩
  | 11 => ⟨S_, .i32⟩
  | 12 => ⟨S_, .i32⟩
  | 13 => ⟨S4096x14, .i32⟩
  | 14 => ⟨S4096x14, .i32⟩
  | 15 => ⟨S_, .i32⟩
  | 16 => ⟨S4096x14, .i32⟩
  | 17 => ⟨S4096x14, .i32⟩
  | 18 => ⟨S4096x14x1, .f32⟩
  | 19 => ⟨S4096x14, .f32⟩
  | 20 => ⟨S4096x14, .i32⟩
  | 21 => ⟨S_, .i32⟩
  | 22 => ⟨S_, .i32⟩
  | 23 => ⟨S_, .i32⟩
  | 24 => ⟨S4096x14, .i32⟩
  | 25 => ⟨S4096x14, .i32⟩
  | 26 => ⟨S_, .i32⟩
  | 27 => ⟨S4096x14, .i32⟩
  | 28 => ⟨S4096x14, .i32⟩
  | 29 => ⟨S4096x14x1, .f32⟩
  | 30 => ⟨S4096x14, .f32⟩
  | 31 => ⟨S_, .f32⟩
  | 32 => ⟨S4096x14, .f32⟩
  | 33 => ⟨S4096x14, .i1⟩
  | 34 => ⟨S4096x14, .f32⟩
  | 35 => ⟨S4096x14x14x14, .i32⟩
  | 36 => ⟨S4096x14x14x14, .i32⟩
  | 37 => ⟨S4096x14x1x1, .i32⟩
  | 38 => ⟨S4096x14x14x14, .i32⟩
  | 39 => ⟨S4096x14x14x14, .i1⟩
  | 40 => ⟨S4096x14x1x1, .i32⟩
  | 41 => ⟨S4096x14x14x14, .i32⟩
  | 42 => ⟨S4096x14x14x14, .i1⟩
  | 43 => ⟨S4096x14x14x14, .i1⟩
  | 44 => ⟨S4096x14x1x1, .f32⟩
  | 45 => ⟨S_, .f32⟩
  | 46 => ⟨S_, .f32⟩
  | 47 => ⟨S4096x14x14x14, .f32⟩
  | 48 => ⟨S4096x14x14x14, .f32⟩
  | 49 => ⟨S4096x14x14x14, .f32⟩
  | 50 => ⟨S4096x12x14x14, .f32⟩
  | 51 => ⟨S4096x4x3x14x14, .f32⟩
  | 52 => ⟨S_, .f32⟩
  | 53 => ⟨S4096x4x14x14, .f32⟩
  | 54 => ⟨S4096x12, .f32⟩
  | 55 => ⟨S4096x4x3, .f32⟩
  | 56 => ⟨S_, .f32⟩
  | 57 => ⟨S4096x4, .f32⟩
  | 58 => ⟨S4096x18x14x14, .f32⟩
  | 59 => ⟨S4096x18, .f32⟩
  | 60 => ⟨S_, .i32⟩
  | 61 => ⟨S4096x18x1x14, .f32⟩
  | 62 => ⟨S4096x18x4x14, .f32⟩
  | 63 => ⟨S4096x18x4x14, .f32⟩
  | 64 => ⟨S4096x18x18x14, .f32⟩
  | 65 => ⟨S4096x18x1x14, .f32⟩
  | 66 => ⟨S4096x18x4x14, .f32⟩
  | 67 => ⟨S4096x18x4x14, .f32⟩
  | 68 => ⟨S4096x18x22x14, .f32⟩
  | 69 => ⟨S_, .f32⟩
  | 70 => ⟨S4096x18x14x14, .f32⟩
  | 71 => ⟨S4096x18x14x14, .f32⟩
  | 72 => ⟨S_, .f32⟩
  | 73 => ⟨S4096x18x14x14, .f32⟩
  | 74 => ⟨S4096x18x14x14, .f32⟩
  | 75 => ⟨S4096x18x14x14, .f32⟩
  | 76 => ⟨S4096x18x14x14, .f32⟩
  | 77 => ⟨S_, .f32⟩
  | 78 => ⟨S4096x18x14x14, .f32⟩
  | 79 => ⟨S4096x18x14x14, .f32⟩
  | 80 => ⟨S4096x18x14x14, .f32⟩
  | 81 => ⟨S4096x18x14x14, .f32⟩
  | 82 => ⟨S_, .f32⟩
  | 83 => ⟨S4096x18x14x14, .f32⟩
  | 84 => ⟨S4096x18x14x14, .f32⟩
  | 85 => ⟨S4096x18x14x14, .f32⟩
  | 86 => ⟨S4096x18x14x14, .f32⟩
  | 87 => ⟨S_, .f32⟩
  | 88 => ⟨S4096x18x14x14, .f32⟩
  | 89 => ⟨S4096x18x14x14, .f32⟩
  | 90 => ⟨S4096x18x14x14, .f32⟩
  | 91 => ⟨S4096x18x14x14, .f32⟩
  | 92 => ⟨S_, .f32⟩
  | 93 => ⟨S4096x18x14x14, .f32⟩
  | 94 => ⟨S4096x18x14x14, .f32⟩
  | 95 => ⟨S4096x18x14x14, .f32⟩
  | 96 => ⟨S4096x18x14x14, .f32⟩
  | 97 => ⟨S_, .f32⟩
  | 98 => ⟨S4096x18x14x14, .f32⟩
  | 99 => ⟨S4096x18x14x14, .f32⟩
  | 100 => ⟨S4096x18x14x14, .f32⟩
  | 101 => ⟨S4096x18x14x14, .f32⟩
  | 102 => ⟨S_, .f32⟩
  | 103 => ⟨S4096x18x14x14, .f32⟩
  | 104 => ⟨S4096x18x14x14, .f32⟩
  | 105 => ⟨S4096x18x14x14, .f32⟩
  | 106 => ⟨S4096x18x14x14, .f32⟩
  | 107 => ⟨S_, .f32⟩
  | 108 => ⟨S4096x18x14x14, .f32⟩
  | 109 => ⟨S4096x18x14x14, .f32⟩
  | 110 => ⟨S4096x18x14x14, .f32⟩
  | 111 => ⟨S4096x18x14x14, .f32⟩
  | 112 => ⟨S_, .f32⟩
  | 113 => ⟨S4096x18x14x14, .f32⟩
  | 114 => ⟨S4096x18x14x14, .f32⟩
  | 115 => ⟨S4096x18x14x14, .f32⟩
  | 116 => ⟨S_, .i32⟩
  | 117 => ⟨S4096x18x14x1, .f32⟩
  | 118 => ⟨S4096x18x14x4, .f32⟩
  | 119 => ⟨S4096x18x14x4, .f32⟩
  | 120 => ⟨S4096x18x14x18, .f32⟩
  | 121 => ⟨S4096x18x14x1, .f32⟩
  | 122 => ⟨S4096x18x14x4, .f32⟩
  | 123 => ⟨S4096x18x14x4, .f32⟩
  | 124 => ⟨S4096x18x14x22, .f32⟩
  | 125 => ⟨S_, .f32⟩
  | 126 => ⟨S4096x18x14x14, .f32⟩
  | 127 => ⟨S4096x18x14x14, .f32⟩
  | _ => ⟨S4096x28x14x14, .f32⟩

abbrev hbmTy0_1 (i : Nat) : BufTy := match i % 128 with
  | 0 => ⟨S_, .f32⟩
  | 1 => ⟨S4096x18x14x14, .f32⟩
  | 2 => ⟨S4096x18x14x14, .f32⟩
  | 3 => ⟨S4096x18x14x14, .f32⟩
  | 4 => ⟨S4096x18x14x14, .f32⟩
  | 5 => ⟨S_, .f32⟩
  | 6 => ⟨S4096x18x14x14, .f32⟩
  | 7 => ⟨S4096x18x14x14, .f32⟩
  | 8 => ⟨S4096x18x14x14, .f32⟩
  | 9 => ⟨S4096x18x14x14, .f32⟩
  | 10 => ⟨S_, .f32⟩
  | 11 => ⟨S4096x18x14x14, .f32⟩
  | 12 => ⟨S4096x18x14x14, .f32⟩
  | 13 => ⟨S4096x18x14x14, .f32⟩
  | 14 => ⟨S4096x18x14x14, .f32⟩
  | 15 => ⟨S_, .f32⟩
  | 16 => ⟨S4096x18x14x14, .f32⟩
  | 17 => ⟨S4096x18x14x14, .f32⟩
  | 18 => ⟨S4096x18x14x14, .f32⟩
  | 19 => ⟨S4096x18x14x14, .f32⟩
  | 20 => ⟨S_, .f32⟩
  | 21 => ⟨S4096x18x14x14, .f32⟩
  | 22 => ⟨S4096x18x14x14, .f32⟩
  | 23 => ⟨S4096x18x14x14, .f32⟩
  | 24 => ⟨S4096x18x14x14, .f32⟩
  | 25 => ⟨S_, .f32⟩
  | 26 => ⟨S4096x18x14x14, .f32⟩
  | 27 => ⟨S4096x18x14x14, .f32⟩
  | 28 => ⟨S4096x18x14x14, .f32⟩
  | 29 => ⟨S4096x18x14x14, .f32⟩
  | 30 => ⟨S_, .f32⟩
  | 31 => ⟨S4096x18x14x14, .f32⟩
  | 32 => ⟨S4096x18x14x14, .f32⟩
  | 33 => ⟨S4096x18x14x14, .f32⟩
  | 34 => ⟨S4096x18x14x14, .f32⟩
  | 35 => ⟨S_, .f32⟩
  | 36 => ⟨S4096x18x14x14, .f32⟩
  | 37 => ⟨S4096x18x14x14, .f32⟩
  | 38 => ⟨S4096x18x14x14, .f32⟩
  | 39 => ⟨S4096x18x14x14, .f32⟩
  | 40 => ⟨S_, .f32⟩
  | 41 => ⟨S4096x18x14x14, .f32⟩
  | 42 => ⟨S4096x18x14x14, .f32⟩
  | 43 => ⟨S4096x18x14x14, .f32⟩
  | 44 => ⟨S4096x18x1x1, .f32⟩
  | 45 => ⟨S_, .f32⟩
  | 46 => ⟨S4096x18x1x1, .f32⟩
  | 47 => ⟨S4096x18x1x1, .i1⟩
  | 48 => ⟨S_, .f32⟩
  | 49 => ⟨S4096x18, .f32⟩
  | 50 => ⟨S4096x18x1x1, .f32⟩
  | 51 => ⟨S_, .f32⟩
  | 52 => ⟨S4096x18, .f32⟩
  | 53 => ⟨S4096x18x1x1, .f32⟩
  | 54 => ⟨S4096x18x1x1, .f32⟩
  | 55 => ⟨S_, .f32⟩
  | 56 => ⟨S4096x18x1x1, .f32⟩
  | 57 => ⟨S4096x18x1x1, .i1⟩
  | 58 => ⟨S4096x18x1x1, .f32⟩
  | 59 => ⟨S_, .f32⟩
  | 60 => ⟨S_, .f32⟩
  | 61 => ⟨S4096x18x1x1, .f32⟩
  | 62 => ⟨S4096x18x1x1, .f32⟩
  | 63 => ⟨S4096x18x14x14, .f32⟩
  | 64 => ⟨S4096x18x14x14, .f32⟩
  | 65 => ⟨S4096x18x14x14, .f32⟩
  | 66 => ⟨S4096x18x14x14, .f32⟩
  | 67 => ⟨S4096x18x14x14, .i1⟩
  | 68 => ⟨S4096x18x14x14, .f32⟩
  | 69 => ⟨S4096x18x14x14, .f32⟩
  | 70 => ⟨S4096x18x1x1, .f32⟩
  | 71 => ⟨S4096x18x14x14, .f32⟩
  | 72 => ⟨S4096x18x14x14, .f32⟩
  | 73 => ⟨S_, .f32⟩
  | 74 => ⟨S_, .f32⟩
  | 75 => ⟨S_, .f32⟩
  | 76 => ⟨S_, .f32⟩
  | 77 => ⟨S_, .f32⟩
  | 78 => ⟨S4096x18x14x14, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | _ => ⟨S4096x28x14x14, .f32⟩

abbrev hbmTy (i : Nat) : BufTy := match i / 128 with
  | 0 => hbmTy0_0 i
  | 1 => hbmTy0_1 i
  | _ => ⟨S4096x28x14x14, .f32⟩

abbrev bufTy : (tb : Table) → Fin (tcTables nBuf tb) → BufTy
  | .hbm, ⟨i, _⟩ => hbmTy i
  | _, _ => ⟨S4096x28x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_v6 : Ref sig .tc := ⟨.hbm, 67, rfl⟩
abbrev main_v34 : Ref sig .tc := ⟨.hbm, 68, rfl⟩
abbrev main_cst_8 : Ref sig .tc := ⟨.hbm, 69, rfl⟩
abbrev main_v35 : Ref sig .tc := ⟨.hbm, 70, rfl⟩
abbrev main_v36 : Ref sig .tc := ⟨.hbm, 71, rfl⟩
abbrev main_cst_9 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_10 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_11 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_12 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_13 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_14 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_15 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_16 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_17 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_c_18 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_v6 : Ref sig .tc := ⟨.hbm, 123, rfl⟩
abbrev main_v72 : Ref sig .tc := ⟨.hbm, 124, rfl⟩
abbrev main_cst_19 : Ref sig .tc := ⟨.hbm, 125, rfl⟩
abbrev main_v73 : Ref sig .tc := ⟨.hbm, 126, rfl⟩
abbrev main_v74 : Ref sig .tc := ⟨.hbm, 127, rfl⟩
abbrev main_cst_20 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_cst_21 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_22 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_23 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_24 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_cst_25 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_cst_26 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_cst_27 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_cst_28 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_cst_29 : Ref sig .tc := ⟨.hbm, 173, rfl⟩
abbrev main_v111 : Ref sig .tc := ⟨.hbm, 174, rfl⟩
abbrev main_v112 : Ref sig .tc := ⟨.hbm, 175, rfl⟩
abbrev main_cst_30 : Ref sig .tc := ⟨.hbm, 176, rfl⟩
abbrev main_v113 : Ref sig .tc := ⟨.hbm, 177, rfl⟩
abbrev main_v114 : Ref sig .tc := ⟨.hbm, 178, rfl⟩
abbrev main_cst_31 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_cst_32 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_cst_33 : Ref sig .tc := ⟨.hbm, 187, rfl⟩
abbrev main_call5_v0 : Ref sig .tc := ⟨.hbm, 188, rfl⟩
abbrev main_call5_v1 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_call6_v0 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_cst_34 : Ref sig .tc := ⟨.hbm, 201, rfl⟩
abbrev main_v131 : Ref sig .tc := ⟨.hbm, 202, rfl⟩
abbrev main_cst_35 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_cst_36 : Ref sig .tc := ⟨.hbm, 207, rfl⟩
abbrev main_v135 : Ref sig .tc := ⟨.hbm, 208, rfl⟩
abbrev main_cst_37 : Ref sig .tc := ⟨.hbm, 209, rfl⟩
abbrev main_v136 : Ref sig .tc := ⟨.hbm, 210, rfl⟩
abbrev main_cst_38 : Ref sig .tc := ⟨.hbm, 211, rfl⟩
abbrev main_v137 : Ref sig .tc := ⟨.hbm, 212, rfl⟩
abbrev main_v138 : Ref sig .tc := ⟨.hbm, 213, rfl⟩

abbrev nD : Nat := 1
abbrev τ : Topo := Topo.v7x

variable {F : FTy → Type} [FloatOps F]
-- ==== Proof.Blob.lean ====
/-
  The real mathematics of the loss for one map: the Gaussian weights, the blob that the two passes of the filter make of
  a set of at most three pixels, its least value 0 and its largest value, and the identity between the two ways of
  summing the squared difference. No program is mentioned here.
-/
module

public import Idealize.ShloMosaic.Lib.Pointwise
public import Mathlib.Data.Real.Basic
public import Mathlib.Algebra.Order.BigOperators.Group.Finset
public import Mathlib.Algebra.BigOperators.Ring.Finset
public import Mathlib.Tactic.FieldSimp
public import Mathlib.Tactic.Ring
public import Mathlib.Tactic.Linarith
public import Mathlib.Tactic.NormNum
public import Mathlib.Tactic.FinCases

@[expose] public section

noncomputable section

namespace Cert.Pose

open Finset

/-- The nine weights of the Gaussian: the binary32 numbers nearest the normalised values, exactly. -/
def K : Fin 9 → ℝ :=
  ![9196770 / 2 ^ 36, 9517350 / 2 ^ 31, 14493133 / 2 ^ 28, 16238429 / 2 ^ 26, 13386322 / 2 ^ 25, 16238429 / 2 ^ 26,
    14493133 / 2 ^ 28, 9517350 / 2 ^ 31, 9196770 / 2 ^ 36]

/-- The pixel that position `n` of an axis of 14 padded by 4 symmetrically on both sides holds. -/
def refl (n : ℕ) : Fin 14 :=
  if n < 4 then ⟨(3 - n) % 14, Nat.mod_lt _ (by decide)⟩
  else if n < 18 then ⟨(n - 4) % 14, Nat.mod_lt _ (by decide)⟩
  else ⟨(31 - n) % 14, Nat.mod_lt _ (by decide)⟩

/-- One pass of the filter as a matrix: what pixel `p` gives to pixel `y`. -/
def C (p y : Fin 14) : ℝ := ∑ i : Fin 9, K i * (if p = refl (y.val + i.val) then 1 else 0)

theorem K_pos (i : Fin 9) : 0 < K i := by
  fin_cases i <;> norm_num [K]

theorem C_nonneg (p y : Fin 14) : 0 ≤ C p y :=
  Finset.sum_nonneg fun i _ => mul_nonneg (K_pos i).le (by split <;> norm_num)

/-- A pixel always gives to itself. -/
theorem C_self_pos (p : Fin 14) : 0 < C p p := by
  have h : ∀ p : Fin 14, p = refl (p.val + 4) := by decide
  refine Finset.sum_pos' (fun i _ => mul_nonneg (K_pos i).le (by split <;> norm_num)) ⟨4, Finset.mem_univ _, ?_⟩
  have : (4 : Fin 9).val = 4 := rfl
  rw [this, if_pos (h p), mul_one]; exact K_pos 4

/-- What reaches pixel `y` at all comes from one of the nine positions around it. -/
theorem exists_of_C_ne {p y : Fin 14} (h : C p y ≠ 0) : ∃ i : Fin 9, p = refl (y.val + i.val) := by
  by_contra hn
  push Not at hn
  exact h (Finset.sum_eq_zero fun i _ => by rw [if_neg (hn i), mul_zero])

/-- The two ends of an axis: the pixels at positions 0 and 13, chosen by a bit. -/
def corner (b : Fin 2) : Fin 14 := if b = 0 then 0 else 13

/-- No pixel reaches both ends of an axis. -/
theorem corner_eq_of_C_ne {p : Fin 14} {a b : Fin 2} (ha : C p (corner a) ≠ 0) (hb : C p (corner b) ≠ 0) : a = b := by
  obtain ⟨i, hi⟩ := exists_of_C_ne ha
  obtain ⟨j, hj⟩ := exists_of_C_ne hb
  have key : ∀ (a b : Fin 2) (i j : Fin 9), refl ((corner a).val + i.val) = refl ((corner b).val + j.val) → a = b := by
    decide
  exact key a b i j (hi ▸ hj)

/-- The map of a set of pixels: one on the set, zero elsewhere. -/
def ind (S : Finset (Fin 14 × Fin 14)) (p q : Fin 14) : ℝ := if (p, q) ∈ S then 1 else 0

/-- The two passes of the filter over the map of `S`, in the matrix form. -/
def blob (S : Finset (Fin 14 × Fin 14)) (y x : Fin 14) : ℝ := ∑ p : Fin 14, ∑ q : Fin 14, C p y * C q x * ind S p q

theorem ind_nonneg (S : Finset (Fin 14 × Fin 14)) (p q : Fin 14) : 0 ≤ ind S p q := by
  unfold ind; split <;> norm_num

theorem blob_term_nonneg (S : Finset (Fin 14 × Fin 14)) (y x p q : Fin 14) : 0 ≤ C p y * C q x * ind S p q :=
  mul_nonneg (mul_nonneg (C_nonneg _ _) (C_nonneg _ _)) (ind_nonneg _ _ _)

theorem blob_nonneg (S : Finset (Fin 14 × Fin 14)) (y x : Fin 14) : 0 ≤ blob S y x :=
  Finset.sum_nonneg fun p _ => Finset.sum_nonneg fun q _ => blob_term_nonneg S y x p q

/-- The two passes of the filter as they are written (the sums over the nine positions, the outer one along the second
    axis) are the matrix form. -/
theorem blob_eq (S : Finset (Fin 14 × Fin 14)) (y x : Fin 14) :
    ∑ j : Fin 9, K j * ∑ i : Fin 9, K i * ind S (refl (y.val + i.val)) (refl (x.val + j.val)) = blob S y x := by
  have hp : ∀ (q : Fin 14), ∑ i : Fin 9, K i * ind S (refl (y.val + i.val)) q = ∑ p : Fin 14, C p y * ind S p q := by
    intro q
    simp only [C, Finset.sum_mul]
    rw [Finset.sum_comm]
    refine Finset.sum_congr rfl fun i _ => ?_
    rw [Finset.sum_eq_single (refl (y.val + i.val))]
    · simp
    · intro b _ hb; rw [if_neg hb]; ring
    · intro h; exact absurd (Finset.mem_univ _) h
  simp only [hp]
  have hq : ∀ g : Fin 14 → ℝ, ∑ j : Fin 9, K j * g (refl (x.val + j.val)) = ∑ q : Fin 14, C q x * g q := by
    intro g
    simp only [C, Finset.sum_mul]
    rw [Finset.sum_comm]
    refine Finset.sum_congr rfl fun i _ => ?_
    rw [Finset.sum_eq_single (refl (x.val + i.val))]
    · simp
    · intro b _ hb; rw [if_neg hb]; ring
    · intro h; exact absurd (Finset.mem_univ _) h
  rw [hq (fun q => ∑ p : Fin 14, C p y * ind S p q)]
  unfold blob
  simp only [Finset.mul_sum]
  rw [Finset.sum_comm]
  exact Finset.sum_congr rfl fun p _ => Finset.sum_congr rfl fun q _ => by ring

/-- With at most three pixels one of the four corners of the blob is zero: no pixel reaches two corners. -/
theorem exists_blob_zero (S : Finset (Fin 14 × Fin 14)) (hS : S.card ≤ 3) : ∃ y x, blob S y x = 0 := by
  by_contra hn
  push Not at hn
  have hex : ∀ c : Fin 2 × Fin 2, ∃ s : S, C s.1.1 (corner c.1) ≠ 0 ∧ C s.1.2 (corner c.2) ≠ 0 := by
    intro c
    by_contra hc
    push Not at hc
    refine hn (corner c.1) (corner c.2) (Finset.sum_eq_zero fun p _ => Finset.sum_eq_zero fun q _ => ?_)
    by_cases hm : (p, q) ∈ S
    · by_cases h1 : C p (corner c.1) = 0
      · rw [h1]; ring
      · rw [hc ⟨(p, q), hm⟩ h1]; ring
    · unfold ind; rw [if_neg hm, mul_zero]
  choose f hf using hex
  have hinj : Function.Injective f := by
    intro a b hab
    have ha := hf a
    have hb := hf b
    rw [hab] at ha
    exact Prod.ext (corner_eq_of_C_ne ha.1 hb.1) (corner_eq_of_C_ne ha.2 hb.2)
  have hcard := Fintype.card_le_of_injective f hinj
  rw [Fintype.card_coe] at hcard
  have h4 : Fintype.card (Fin 2 × Fin 2) = 4 := by decide
  omega

/-- The largest value of the blob. -/
def mx (S : Finset (Fin 14 × Fin 14)) : ℝ := univ.sup' univ_nonempty fun c : Fin 14 × Fin 14 => blob S c.1 c.2

theorem blob_le_mx (S : Finset (Fin 14 × Fin 14)) (y x : Fin 14) : blob S y x ≤ mx S :=
  Finset.le_sup' (fun c : Fin 14 × Fin 14 => blob S c.1 c.2) (Finset.mem_univ (y, x))

theorem exists_blob_eq_mx (S : Finset (Fin 14 × Fin 14)) : ∃ y x, blob S y x = mx S := by
  obtain ⟨c, -, hc⟩ := Finset.exists_mem_eq_sup' univ_nonempty fun c : Fin 14 × Fin 14 => blob S c.1 c.2
  exact ⟨c.1, c.2, hc.symm⟩

theorem mx_pos_iff (S : Finset (Fin 14 × Fin 14)) : 0 < mx S ↔ S.Nonempty := by
  constructor
  · intro h
    by_contra hn
    rw [Finset.not_nonempty_iff_eq_empty] at hn
    obtain ⟨y, x, hyx⟩ := exists_blob_eq_mx S
    rw [← hyx, hn] at h
    simp [blob, ind] at h
  · rintro ⟨⟨p, q⟩, hm⟩
    refine lt_of_lt_of_le ?_ (blob_le_mx S p q)
    refine Finset.sum_pos' (fun a _ => Finset.sum_nonneg fun b _ => blob_term_nonneg S p q a b) ⟨p, mem_univ _, ?_⟩
    refine Finset.sum_pos' (fun b _ => blob_term_nonneg S p q p b) ⟨q, mem_univ _, ?_⟩
    have : ind S p q = 1 := if_pos hm
    rw [this, mul_one]
    exact mul_pos (C_self_pos p) (C_self_pos q)

theorem mx_nonneg (S : Finset (Fin 14 × Fin 14)) : 0 ≤ mx S :=
  (blob_nonneg S 0 0).trans (blob_le_mx S 0 0)

/-- Whether the map has a pixel, as a number. -/
def act (S : Finset (Fin 14 × Fin 14)) : ℝ := if S.Nonempty then 1 else 0

/-- The target map: the blob over its largest value where there is a pixel, the map itself (zero) where there is none. -/
def target (S : Finset (Fin 14 × Fin 14)) (y x : Fin 14) : ℝ :=
  if S.Nonempty then blob S y x / mx S else ind S y x

/-- What a map adds to the loss: the masked squared difference to the target. -/
def term (S : Finset (Fin 14 × Fin 14)) (h : Fin 14 → Fin 14 → ℝ) : ℝ :=
  ∑ y : Fin 14, ∑ x : Fin 14, ((h y x - target S y x) * act S) * ((h y x - target S y x) * act S)

/-- The kernel's expansion of the square: the three sums, with the largest value guarded against zero. -/
theorem term_eq (S : Finset (Fin 14 × Fin 14)) (h : Fin 14 → Fin 14 → ℝ) :
    act S * ((∑ y : Fin 14, ∑ x : Fin 14, h y x * h y x)
        - 2 * ((∑ y : Fin 14, ∑ x : Fin 14, h y x * blob S y x) / (if 0 < mx S then mx S else 1))
        + (∑ y : Fin 14, ∑ x : Fin 14, blob S y x * blob S y x)
          / ((if 0 < mx S then mx S else 1) * (if 0 < mx S then mx S else 1))) = term S h := by
  unfold term act target
  by_cases hS : S.Nonempty
  · have hm := (mx_pos_iff S).2 hS
    simp only [if_pos hS, if_pos hm, mul_one, one_mul]
    have e : ∀ y x, (h y x - blob S y x / mx S) * (h y x - blob S y x / mx S)
        = h y x * h y x - 2 / mx S * (h y x * blob S y x) + 1 / (mx S * mx S) * (blob S y x * blob S y x) := by
      intro y x; field_simp
      ring
    simp only [e, Finset.sum_add_distrib, Finset.sum_sub_distrib, ← Finset.mul_sum]
    ring
  · simp [hS]

end Cert.Pose
-- ==== Proof.Joints.lean ====
/-
  The pixel that a joint names, the set of pixels of a channel (a joint, or a group of three joints), the 224 rows that
  the 196 pixels are laid out in, and the table of blobs, over the extended reals. No program is mentioned here.
-/
module

public import proofs.«01_k».proof.Proof.Blob
public import Idealize.ShloMosaic.Lib.Pointwise
public import Idealize.ShloMosaic.Lib.Tactic.WordOmega

@[expose] public section

noncomputable section

namespace Cert.Pose

open Idealize.ShloMosaic
open Finset

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A running maximum from the least value is any bound that is attained. -/
theorem fold_max_eq {ι : Type*} [Fintype ι] (f : ι → EReal) (b : EReal) (hb : ∀ i, f i ≤ b) (he : ∃ i, f i = b) :
    Finset.fold max ⊥ f univ = b := by
  obtain ⟨i, hi⟩ := he
  refine le_antisymm (Finset.sup_le fun i _ => hb i) ?_
  rw [← hi]
  exact Finset.le_sup (f := f) (Finset.mem_univ i)

/-- The binary32 word of minus infinity is the least extended real. -/
theorem ofBits_ninf : Ideal.ofBits .f32 0xFF800000#32 = ⊥ := by
  simp [Ideal.ofBits, Ideal.ieee]

/-! ## Pixels -/

/-- The position word of a coordinate: 14 times it, read as an integer and clipped to 0 … 13. -/
def pixW (e : EReal) : BitVec 32 :=
  IntOp.minsi 13#32 (IntOp.maxsi 0#32 (Scalar.fptosi (F := Ideal) (φ := .f32) 32 (e * Ideal.ofBits .f32 0x41600000#32)))

theorem clip_lt (w : BitVec 32) : (IntOp.minsi 13#32 (IntOp.maxsi 0#32 w)).toNat < 14 := by
  unfold IntOp.minsi IntOp.maxsi
  simp only [BitVec.slt_eq_decide, decide_eq_true_eq]
  have h13 : (13#32).toInt = 13 := rfl
  have h0 : (0#32).toInt = 0 := rfl
  have hn13 : (13#32).toNat = 13 := rfl
  have hn0 : (0#32).toNat = 0 := rfl
  have hw := BitVec.toInt_eq_toNat_cond w
  have hl := w.isLt
  split_ifs at hw <;> split_ifs <;> omega

/-- The pixel of a coordinate along one axis. -/
def pix (e : EReal) : Fin 14 := ⟨(pixW e).toNat, clip_lt _⟩

theorem pixW_eq (e : EReal) : pixW e = BitVec.ofNat 32 (pix e).val := by
  simp [pix]

/-- The pixels of a joint: one pixel where it is visible, none where it is not. -/
def spot (tx ty v : EReal) : Finset (Fin 14 × Fin 14) := if v = 1 then {(pix ty, pix tx)} else ∅

/-- A joint has one pixel or none. -/
theorem spot_cases (tx ty v : EReal) : spot tx ty v = ∅ ∨ ∃ s, spot tx ty v = {s} := by
  unfold spot
  split
  · exact .inr ⟨_, rfl⟩
  · exact .inl rfl

theorem spot_card (tx ty v : EReal) : (spot tx ty v).card ≤ 1 := by
  rcases spot_cases tx ty v with h | ⟨s, h⟩ <;> rw [h] <;> simp

/-- The pixels of channel `c`: a joint's for the first 14, the three joints' of a group for the last four. -/
def chan (J : ℕ → Finset (Fin 14 × Fin 14)) (c : ℕ) : Finset (Fin 14 × Fin 14) :=
  if c < 14 then J c else J (3 * (c - 14)) ∪ J (3 * (c - 14) + 1) ∪ J (3 * (c - 14) + 2)

theorem chan_joint (J : ℕ → Finset (Fin 14 × Fin 14)) {c : ℕ} (h : c < 14) : chan J c = J c := if_pos h

theorem chan_group (J : ℕ → Finset (Fin 14 × Fin 14)) (g : ℕ) :
    chan J (14 + g) = J (3 * g) ∪ J (3 * g + 1) ∪ J (3 * g + 2) := by
  unfold chan
  rw [if_neg (by omega), Nat.add_sub_cancel_left]

/-- A channel has at most three pixels. -/
theorem chan_card (J : ℕ → Finset (Fin 14 × Fin 14)) (hJ : ∀ k, (J k).card ≤ 1) (c : ℕ) : (chan J c).card ≤ 3 := by
  unfold chan
  split
  · exact (hJ c).trans (by decide)
  · refine (Finset.card_union_le _ _).trans ?_
    have h := Finset.card_union_le (J (3 * (c - 14))) (J (3 * (c - 14) + 1))
    have h0 := hJ (3 * (c - 14)); have h1 := hJ (3 * (c - 14) + 1); have h2 := hJ (3 * (c - 14) + 2)
    omega

/-- The joints' pixels of one batch element, from the coordinates and the visibilities. -/
def joints (t v : (⟨3, ![4096, 14, 2]⟩ : Shape).Idx → EReal) (b : Fin 4096) (k : ℕ) : Finset (Fin 14 × Fin 14) :=
  if h : k < 14 then spot (t (ix3 b ⟨k, h⟩ 0)) (t (ix3 b ⟨k, h⟩ 1)) (v (ix3 b ⟨k, h⟩ 0)) else ∅

theorem joints_card (t v : (⟨3, ![4096, 14, 2]⟩ : Shape).Idx → EReal) (b : Fin 4096) (k : ℕ) :
    (joints t v b k).card ≤ 1 := by
  unfold joints
  split
  · exact spot_card _ _ _
  · simp

/-- The heatmap of one channel of one batch element, as reals. -/
def hmap (h : (⟨4, ![4096, 18, 14, 14]⟩ : Shape).Idx → EReal) (b : Fin 4096) (c : ℕ) (y x : Fin 14) : ℝ :=
  if hc : c < 18 then (h (ix4 b ⟨c, hc⟩ y x)).toReal else 0

/-- The loss summed over the batch and the channels. -/
def lossSum (h : (⟨4, ![4096, 18, 14, 14]⟩ : Shape).Idx → EReal) (t v : (⟨3, ![4096, 14, 2]⟩ : Shape).Idx → EReal) : ℝ :=
  ∑ b : Fin 4096, ∑ c ∈ range 18, term (chan (joints t v b) c) (hmap h b c)

/-- The number of active channels over the batch. -/
def countSum (t v : (⟨3, ![4096, 14, 2]⟩ : Shape).Idx → EReal) : ℝ :=
  ∑ b : Fin 4096, ∑ c ∈ range 18, act (chan (joints t v b) c)

/-! ## Rows -/

/-- The row of a pixel among the 224 = 14 x 16. -/
def row (s : Fin 14 × Fin 14) : Fin 224 :=
  ⟨s.1.val * 16 + s.2.val, by have := s.1.isLt; have := s.2.isLt; omega⟩

theorem row_injective : Function.Injective row := by
  rintro ⟨a, b⟩ ⟨c, d⟩ h
  have h' : a.val * 16 + b.val = c.val * 16 + d.val := congrArg Fin.val h
  refine Prod.ext (Fin.ext ?_) (Fin.ext ?_) <;> dsimp only <;> omega

theorem row_surj (p : Fin 224) (hp : p.val % 16 < 14) : ∃ s, row s = p := by
  refine ⟨(⟨p.val / 16, by omega⟩, ⟨p.val % 16, hp⟩), Fin.ext ?_⟩
  show p.val / 16 * 16 + p.val % 16 = p.val
  omega

theorem row_mod (s : Fin 14 × Fin 14) : (row s).val % 16 < 14 := by
  have := s.1.isLt; have := s.2.isLt
  show (s.1.val * 16 + s.2.val) % 16 < 14
  omega

/-- A sum over the rows of something zero outside the pixels' is the sum over the pixels. -/
theorem sum_rows {M : Type*} [AddCommMonoid M] (g : Fin 224 → M) (hg : ∀ p : Fin 224, 14 ≤ p.val % 16 → g p = 0) :
    ∑ p, g p = ∑ y : Fin 14, ∑ x : Fin 14, g (row (y, x)) := by
  rw [← Fintype.sum_prod_type (f := fun s : Fin 14 × Fin 14 => g (row s))]
  refine (Fintype.sum_of_injective row row_injective _ _ (fun p hp => hg p ?_) fun _ => rfl).symm
  by_contra hc
  exact hp (row_surj p (by omega))

/-- The blob is the sum over its pixels. -/
theorem blob_eq_sum (S : Finset (Fin 14 × Fin 14)) (y x : Fin 14) : blob S y x = ∑ s ∈ S, C s.1 y * C s.2 x := by
  unfold blob ind
  rw [← Fintype.sum_prod_type (f := fun s : Fin 14 × Fin 14 => C s.1 y * C s.2 x * (if (s.1, s.2) ∈ S then 1 else 0))]
  simp only [mul_ite, mul_one, mul_zero, Prod.mk.eta, Finset.sum_ite_mem, Finset.univ_inter]

theorem blob_single (s : Fin 14 × Fin 14) (y x : Fin 14) : blob {s} y x = C s.1 y * C s.2 x := by
  rw [blob_eq_sum, Finset.sum_singleton]

theorem blob_empty (y x : Fin 14) : blob ∅ y x = 0 := by
  rw [blob_eq_sum, Finset.sum_empty]

theorem mx_empty : mx ∅ = 0 :=
  le_antisymm (not_lt.1 fun h => by simpa using (mx_pos_iff ∅).1 h) (mx_nonneg _)

/-- The table of blobs: column `row s` holds the blob of the one pixel `s`, then its largest value and the sum of its
    squares; a row that is no pixel's holds zero. -/
structure IsTable (T : (⟨2, ![226, 224]⟩ : Shape).Idx → EReal) : Prop where
  pixel : ∀ r s : Fin 14 × Fin 14,
    T (ix2 ⟨(row r).val, (row r).isLt.trans (by decide)⟩ (row s)) = ((C s.1 r.1 * C s.2 r.2 : ℝ) : EReal)
  pad : ∀ (p : Fin 224) (s : Fin 14 × Fin 14), 14 ≤ p.val % 16 → T (ix2 ⟨p.val, p.isLt.trans (by decide)⟩ (row s)) = 0
  top : ∀ s : Fin 14 × Fin 14, T (ix2 224 (row s)) = ((mx {s} : ℝ) : EReal)
  sq : ∀ s : Fin 14 × Fin 14, T (ix2 225 (row s)) = ((∑ y, ∑ x, blob {s} y x * blob {s} y x : ℝ) : EReal)

/-- A table's row against the mask of a set of pixels: the sum of the row's entries at the pixels. -/
theorem sum_mask (f : Fin 224 → EReal) (d : Fin 224 → Prop) [DecidablePred d] (S : Finset (Fin 14 × Fin 14))
    (hd : ∀ p, d p ↔ ∃ s ∈ S, row s = p) : ∑ p, f p * (if d p then 1 else 0) = ∑ s ∈ S, f (row s) := by
  classical
  simp only [mul_ite, mul_one, mul_zero]
  rw [← Finset.sum_filter, ← Finset.sum_image (s := S) (g := row) (f := f) (fun a _ b _ h => row_injective h)]
  refine Finset.sum_congr ?_ fun _ _ => rfl
  ext p
  simp [hd p]

end Cert.Pose
-- ==== Proof.RefMaps.lean ====
/-
  The reference's maps: what the pixels, the visibilities, the joints' maps and the groups' maps hold at an index, on the
  exact reals.
-/
module

public import proofs.«01_k».proof.Proof.Joints
public import proofs.«01_k».proof.Proof.Gen.ReferenceIdeal.Read

@[expose] public section

noncomputable section

namespace Cert.Pose

open Idealize.ShloMosaic Idealize.ShloMosaic.TcCoe Idealize.ShloMosaic.Tactic
open Finset
open Cert.ReferenceIdeal Cert.ReferenceIdeal.Gen Cert.ReferenceIdeal.Read

variable (t v : S4096x14x2.Idx → EReal)

/-- Whether a joint has a pixel. -/
theorem joint_act (b : Fin 4096) (k : Fin 14) : act (joints t v b k.val) = if v (ix3 b k 0) = 1 then 1 else 0 := by
  unfold act joints spot
  rw [dif_pos k.isLt]
  by_cases h : v (ix3 b k 0) = 1 <;> simp [h]

/-- A joint's map at a pixel. -/
theorem joint_ind (b : Fin 4096) (k y x : Fin 14) : ind (joints t v b k.val) y x
    = if y = pix (t (ix3 b k 1)) ∧ x = pix (t (ix3 b k 0)) then act (joints t v b k.val) else 0 := by
  rw [joint_act]
  unfold ind joints spot
  rw [dif_pos k.isLt]
  by_cases h : v (ix3 b k 0) = 1 <;> simp [h]

/-- The word of a pixel coordinate tests equal to a joint's position word exactly where they are equal. -/
theorem hit_bit (y : Fin 14) (e : EReal) : IntOp.cmpi .eq (BitVec.ofNat 32 y.val) (pixW e) = if y = pix e then 1#1 else 0#1 := by
  rw [pixW_eq]
  unfold IntOp.cmpi
  have hy := y.isLt
  have hp := (pix e).isLt
  have h : (BitVec.ofNat 32 y.val = BitVec.ofNat 32 (pix e).val) ↔ y = pix e := by
    constructor
    · intro h
      have h' := congrArg BitVec.toNat h
      simp only [BitVec.toNat_ofNat] at h'
      exact Fin.ext (by omega)
    · intro h; rw [h]
  by_cases hq : y = pix e
  · simp [hq]
  · have := mt h.1 hq
    rw [if_neg hq]
    show BitVec.ofBool (_ == _) = _
    rw [beq_false_of_ne this]
    rfl

/-- Where a joint's x coordinate lies. -/
theorem ref_x (b : Fin 4096) (k : Fin 14) : val_main_v5 (F := Ideal) t (ix2 b k) = pixW (t (ix3 b k 0)) := by
  unfold pixW
  pointwise [val_main_v5, val_main_call0_v4, val_main_call0_v3, val_main_c_0, val_main_call0_v2, val_main_call0_v1,
    val_main_call0_v0, val_main_c, val_main_v4, val_main_v3, val_main_v2, val_main_v1, val_main_v0, val_main_cst]
  rfl

/-- Where a joint's y coordinate lies. -/
theorem ref_y (b : Fin 4096) (k : Fin 14) : val_main_v9 (F := Ideal) t (ix2 b k) = pixW (t (ix3 b k 1)) := by
  unfold pixW
  pointwise [val_main_v9, val_main_call1_v4, val_main_call1_v3, val_main_c_2, val_main_call1_v2, val_main_call1_v1,
    val_main_call1_v0, val_main_c_1, val_main_v8, val_main_v7, val_main_v6, val_main_v1, val_main_v0, val_main_cst]
  rfl

/-- The visibility of a joint: whether it has a pixel. -/
theorem ref_vis (b : Fin 4096) (k : Fin 14) : val_main_v14 (F := Ideal) v (ix2 b k) = ((act (joints t v b k.val) : ℝ) : EReal) := by
  pointwise [val_main_v14, val_main_v13, val_main_v12, val_main_cst_3, val_main_v11, val_main_v10]
  rw [joint_act t v b k]
  by_cases h : v (ix3 b k 0) = 1
  · rw [decide_eq_true h, if_pos h]
    show (((1#1).toNat : ℝ) : EReal) = _
    norm_num
  · rw [decide_eq_false h, if_neg h]
    show (((0#1).toNat : ℝ) : EReal) = _
    norm_num

/-- A joint's map. -/
theorem ref_map (b : Fin 4096) (k y x : Fin 14) :
    val_main_v25 (F := Ideal) t v (ix4 b k y x) = ((ind (joints t v b k.val) y x : ℝ) : EReal) := by
  have hy := ref_y t b k
  have hx := ref_x t b k
  have hv := ref_vis t v b k
  unfold val_main_v25 val_main_v23 val_main_v22 val_main_v19 val_main_v21 val_main_v20 val_main_v18 val_main_v17
    val_main_call2_v1 val_main_v24
  generalize val_main_v9 (F := Ideal) t = py at hy ⊢
  generalize val_main_v5 (F := Ideal) t = px at hx ⊢
  generalize val_main_v14 (F := Ideal) v = pv at hv ⊢
  pointwise [val_main_v16, val_main_v15, val_main_call2_v2, val_main_call2_v0, val_main_cst_4]
  rw [hy, hx, hv, hit_bit, hit_bit, joint_ind]
  by_cases h1 : y = pix (t (ix3 b k 1)) <;> by_cases h2 : x = pix (t (ix3 b k 0))
  · simp only [h1, h2, if_true, and_self]
    rfl
  all_goals
    simp only [h1, h2, if_true, if_false, and_false, false_and]
    exact Ideal.ofBits_zero_f32

/-- Three bits' largest. -/
theorem fold_three (p : Fin 3 → Prop) [∀ j, Decidable (p j)] [Decidable (∃ j, p j)] :
    Finset.fold max ⊥ (fun j => (((if p j then 1 else 0 : ℝ)) : EReal)) univ = (((if ∃ j, p j then 1 else 0 : ℝ)) : EReal) := by
  refine fold_max_eq _ _ (fun j => ?_) ?_
  · refine EReal.coe_le_coe_iff.2 ?_
    by_cases h : p j
    · rw [if_pos h, if_pos ⟨j, h⟩]
    · rw [if_neg h]; split <;> norm_num
  · by_cases h : ∃ j, p j
    · obtain ⟨j, hj⟩ := h
      exact ⟨j, by rw [if_pos hj, if_pos ⟨j, hj⟩]⟩
    · exact ⟨0, by rw [if_neg h, if_neg fun h0 => h ⟨0, h0⟩]⟩

/-- The three joints of a group. -/
theorem mem_group (J : ℕ → Finset (Fin 14 × Fin 14)) (g : ℕ) (s : Fin 14 × Fin 14) :
    s ∈ chan J (14 + g) ↔ ∃ j : Fin 3, s ∈ J (g * 3 + j.val) := by
  rw [chan_group, Nat.mul_comm 3 g]
  constructor
  · intro h
    rcases Finset.mem_union.1 h with h | h
    · rcases Finset.mem_union.1 h with h | h
      · exact ⟨0, h⟩
      · exact ⟨1, h⟩
    · exact ⟨2, h⟩
  · rintro ⟨j, h⟩
    fin_cases j
    · exact Finset.mem_union_left _ (Finset.mem_union_left _ h)
    · exact Finset.mem_union_left _ (Finset.mem_union_right _ h)
    · exact Finset.mem_union_right _ h

/-- A group's map: its three joints' maps' largest is the map of their pixels together. -/
theorem ref_group (b : Fin 4096) (g : Fin 4) (y x : Fin 14) :
    val_main_v28 (F := Ideal) t v (ix4 b g y x) = ((ind (chan (joints t v b) (14 + g.val)) y x : ℝ) : EReal) := by
  have hm := ref_map t v b
  unfold val_main_v28 val_main_v27 val_main_v26
  generalize val_main_v25 (F := Ideal) t v = M at hm ⊢
  pointwise [val_main_cst_5]
  rw [ofBits_ninf]
  refine (congrArg (fun f => Finset.fold max ⊥ f univ) (funext fun j => hm _ y x)).trans ?_
  unfold ind
  rw [fold_three]
  simp only [mem_group]

/-- A group's visibility. -/
theorem ref_gvis (b : Fin 4096) (g : Fin 4) :
    val_main_v31 (F := Ideal) v (ix2 b g) = ((act (chan (joints t v b) (14 + g.val)) : ℝ) : EReal) := by
  have hm := ref_vis t v b
  unfold val_main_v31 val_main_v30 val_main_v29
  generalize val_main_v14 (F := Ideal) v = M at hm ⊢
  pointwise [val_main_cst_6]
  rw [ofBits_ninf]
  refine (congrArg (fun f => Finset.fold max ⊥ f univ) (funext fun j => hm _)).trans ?_
  unfold act
  rw [fold_three]
  have e : (∃ j : Fin 3, (joints t v b (g.val * 3 + j.val)).Nonempty) ↔ (chan (joints t v b) (14 + g.val)).Nonempty := by
    constructor
    · rintro ⟨j, s, hs⟩
      exact ⟨s, (mem_group _ _ _).2 ⟨j, hs⟩⟩
    · rintro ⟨s, hs⟩
      obtain ⟨j, hj⟩ := (mem_group _ _ _).1 hs
      exact ⟨j, s, hj⟩
  simp only [e]

/-- The 18 channels' maps. -/
theorem ref_maps (b : Fin 4096) (c : Fin 18) (y x : Fin 14) :
    val_main_v32 (F := Ideal) t v (ix4 b c y x) = ((ind (chan (joints t v b) c.val) y x : ℝ) : EReal) := by
  have hm := ref_map t v b
  have hg := ref_group t v b
  unfold val_main_v32
  generalize val_main_v25 (F := Ideal) t v = M at hm ⊢
  generalize val_main_v28 (F := Ideal) t v = G at hg ⊢
  pointwise
  by_cases h : c.val < 14
  · rw [dif_pos h, hm, chan_joint _ h]
  · have e : 14 + (c.val - 14) = c.val := by omega
    simp only [dif_neg h, hg, e]

/-- The 18 channels' mask. -/
theorem ref_mask (b : Fin 4096) (c : Fin 18) :
    val_main_v33 (F := Ideal) v (ix2 b c) = ((act (chan (joints t v b) c.val) : ℝ) : EReal) := by
  have hm := ref_vis t v b
  have hg := ref_gvis t v b
  unfold val_main_v33
  generalize val_main_v14 (F := Ideal) v = M at hm ⊢
  generalize val_main_v31 (F := Ideal) v = G at hg ⊢
  pointwise
  by_cases h : c.val < 14
  · rw [dif_pos h, hm, chan_joint _ h]
  · have e : 14 + (c.val - 14) = c.val := by omega
    simp only [dif_neg h, hg, e]

end Cert.Pose
-- ==== Proof.Host.lean ====
/-
  What the host computes before the kernel: the three transposed arguments and the table of blobs, as functions; and the
  table's entries at the exact reals.
-/
module

public import proofs.«01_k».proof.Proof.Joints
public import proofs.«01_k».proof.Proof.Gen.KernelIdeal.Frame
public import Idealize.ShloMosaic.Lib.Pipeline.ValueKit

@[expose] public section

set_option maxRecDepth 65536

noncomputable section

namespace Cert.Pose

open Idealize.ShloMosaic Idealize.ShloMosaic.TcCoe Idealize.ShloMosaic.Tactic
open Idealize.SL.Sem
open Finset
open Cert.KernelIdeal Cert.KernelIdeal.Gen

section Generic
variable {F : FTy → Type} [FloatOps F]

theorem slices_col (k : ℕ) (hk : k < 9) : S14x22.Slices ![0, k] S14x14 :=
  ⟨rfl, fun a => match a with
    | ⟨0, _⟩ => by show 0 + 14 ≤ 14; omega
    | ⟨1, _⟩ => by show k + 14 ≤ 22; omega⟩

/-- The words of the nine weights. -/
def weightW : Fin 9 → BitVec 32 :=
  ![0x390C54E2#32, 0x3B913926#32, 0x3D5D25CD#32, 0x3E77C75D#32, 0x3ECC4252#32, 0x3E77C75D#32, 0x3D5D25CD#32,
    0x3B913926#32, 0x390C54E2#32]

/-- The identity padded symmetrically by 4 columns on each side. -/
def eyeP : FVec F S14x22 .f32 := fun i => FloatOps.ofBits .f32 (lit0 (S14x22.rowMajor i))

/-- The first `n` of the nine weighted column shifts, added up. -/
def passN : (n : ℕ) → n ≤ 9 → FVec F S14x14 .f32
  | 0, _ => broadcastInDim S14x14 ![] bcast_S_S14x14 (constant S_ .f32 0x00000000#32)
  | n + 1, h => addf (passN n (by omega))
      (mulf (broadcastInDim S14x14 ![] bcast_S_S14x14 (constant S_ .f32 (weightW ⟨n, h⟩)))
        (extractStridedSlice S14x14 ![0, n] eyeP (slices_col n h)))

/-- The 224 x 224 table of blobs from one pass. -/
def fullOf (c : FVec F S14x14 .f32) : FVec F S224x224 .f32 :=
  shapeCast S224x224
    (pad S14x16x14x16 ![0, 0, 0, 0] ![0, 2, 0, 2] ![0, 0, 0, 0]
      (mulf
        (broadcastInDim S14x14x14x14 ![0, 1, 2, 3] bcast_S14x1x14x1_S14x14x14x14_0_1_2_3
          (broadcastInDim S14x1x14x1 ![0, 2] bcast_S14x14_S14x1x14x1_0_2 (transpose S14x14 [1, 0] c transposes_S14x14_S14x14_1_0)))
        (broadcastInDim S14x14x14x14 ![0, 1, 2, 3] bcast_S1x14x1x14_S14x14x14x14_0_1_2_3
          (broadcastInDim S1x14x1x14 ![1, 3] bcast_S14x14_S1x14x1x14_1_3 (transpose S14x14 [1, 0] c transposes_S14x14_S14x14_1_0))))
      (sitofp .f32 (constantI S_ 32 0#32)) pads_S14x14x14x14_S14x16x14x16_000_020_000_020 h_S_)
    shapeCasts_S14x16x14x16_S224x224

/-- The table with its two last rows, each column's largest value and sum of squares. -/
def tableOf (f : FVec F S224x224 .f32) : FVec F S226x224 .f32 :=
  concatenate S226x224 0 [⟨S224x224, f⟩, ⟨S2x224, concatenate S2x224 0
    [⟨S1x224, broadcastInDim S1x224 ![1] bcast_S224_S1x224_1
        (Host.reduce FloatOps.maximumf f (constant S_ .f32 0xFF800000#32) reducesTo_S224x224_S224_d0 h_S_)⟩,
      ⟨S1x224, broadcastInDim S1x224 ![1] bcast_S224_S1x224_1
        (Host.reduceAdd (mulf f f) (constant S_ .f32 0x00000000#32) reducesTo_S224x224_S224_d0 h_S_)⟩]
    concatenates_S1x224_S1x224_S2x224_d0⟩] concatenates_S224x224_S2x224_S226x224_d0

variable (m : (ℓ : Loc nD τ sig) → Buf (Elt F) ℓ)

set_option maxHeartbeats 4000000 in
/-- The table that the kernel reads, before it is rounded to the shorter format. -/
theorem V_table (c : Dev nD) : V m c main_v56 = truncf .bf16 (tableOf (fullOf (passN 9 le_rfl))) bitsLt_bf16_f32 := by
  unfold V V0
  simp only [hostOps0, hostOps0_1, hostOps0_2, List.flatten_cons, List.flatten_nil, List.append_nil, List.cons_append, List.nil_append]
  after_results
  rfl

/-- The heatmaps that the kernel reads: the batch axis last. -/
theorem V_heat (c : Dev nD) : V m c main_v0
    = transpose S18x14x14x4096 [1, 2, 3, 0] (m ((c : Thread nD τ).loc main_arg1)) transposes_S4096x18x14x14_S18x14x14x4096_1_2_3_0 := by
  unfold V V0
  simp only [hostOps0, hostOps0_1, hostOps0_2, List.flatten_cons, List.flatten_nil, List.append_nil, List.cons_append, List.nil_append]
  after_results

/-- The coordinates that the kernel reads: the batch axis last. -/
theorem V_coord (c : Dev nD) : V m c main_v1
    = transpose S14x2x4096 [1, 2, 0] (m ((c : Thread nD τ).loc main_arg2)) transposes_S4096x14x2_S14x2x4096_1_2_0 := by
  unfold V V0
  simp only [hostOps0, hostOps0_1, hostOps0_2, List.flatten_cons, List.flatten_nil, List.append_nil, List.cons_append, List.nil_append]
  after_results

/-- The visibilities that the kernel reads: the batch axis last. -/
theorem V_vis (c : Dev nD) : V m c main_v2
    = transpose S14x2x4096 [1, 2, 0] (m ((c : Thread nD τ).loc main_arg3)) transposes_S4096x14x2_S14x2x4096_1_2_0 := by
  unfold V V0
  simp only [hostOps0, hostOps0_1, hostOps0_2, List.flatten_cons, List.flatten_nil, List.append_nil, List.cons_append, List.nil_append]
  after_results

end Generic

/-- The literal is the padded identity. -/
theorem lit0_eq : ∀ (p : Fin 14) (n : Fin 22),
    lit0 (S14x22.rowMajor (ix2 p n)) = if p = refl n.val then 0x3F800000#32 else 0x00000000#32 := by
  decide +kernel

/-- The weights' words are the weights. -/
theorem weightW_eq (i : Fin 9) : Ideal.ofBits .f32 (weightW i) = ((K i : ℝ) : EReal) := by
  fin_cases i <;> simp [weightW, K, Ideal.ofBits, Ideal.ieee, -EReal.coe_mul] <;> norm_num

theorem eyeP_apply (p : Fin 14) (n : Fin 22) : eyeP (F := Ideal) (ix2 p n) = (((if p = refl n.val then 1 else 0 : ℝ)) : EReal) := by
  show Ideal.ofBits .f32 (lit0 (S14x22.rowMajor (ix2 p n))) = _
  rw [lit0_eq]
  split_ifs
  · rw [Ideal.ofBits_one_f32, EReal.coe_one]
  · rw [Ideal.ofBits_zero_f32, EReal.coe_zero]

/-- The first `n` weighted shifts at the exact reals. -/
theorem passN_apply (n : ℕ) (hn : n ≤ 9) (p y : Fin 14) : passN (F := Ideal) n hn (ix2 p y)
    = ((∑ i : Fin n, K (Fin.castLE hn i) * (if p = refl (y.val + i.val) then 1 else 0) : ℝ) : EReal) := by
  induction n with
  | zero =>
    show Ideal.ofBits .f32 0x00000000#32 = _
    rw [Ideal.ofBits_zero_f32, Finset.univ_eq_empty, Finset.sum_empty, EReal.coe_zero]
  | succ n ih =>
    rw [Fin.sum_univ_castSucc, EReal.coe_add, EReal.coe_mul]
    refine congrArg₂ (· + ·) (ih (by omega)) (congrArg₂ (· * ·) (weightW_eq _) ?_)
    refine (congrArg eyeP ?_).trans (eyeP_apply p ⟨y.val + n, by have := y.isLt; omega⟩)
    funext a
    apply Fin.ext
    match a with
    | ⟨0, _⟩ => show 0 + p.val = p.val; omega
    | ⟨1, _⟩ => show n + y.val = y.val + n; omega

/-- One pass is the matrix `C`. -/
theorem pass_apply (p y : Fin 14) : passN (F := Ideal) 9 le_rfl (ix2 p y) = ((C p y : ℝ) : EReal) :=
  passN_apply 9 le_rfl p y

/-- The 224 x 224 table at two rows. -/
theorem fullOf_apply (c : FVec Ideal S14x14 .f32) (r s : Fin 224) : fullOf c (ix2 r s)
    = if h : r.val / 16 < 14 ∧ r.val % 16 < 14 ∧ s.val / 16 < 14 ∧ s.val % 16 < 14 then
        c (ix2 ⟨s.val / 16, h.2.2.1⟩ ⟨r.val / 16, h.1⟩) * c (ix2 ⟨s.val % 16, h.2.2.2⟩ ⟨r.val % 16, h.2.1⟩)
      else 0 := by
  pointwise [fullOf]
  refine dite_congr rfl (fun _ => rfl) fun _ => ?_
  show ((((0#32).toInt : ℤ) : ℝ) : EReal) = 0
  simp

theorem row_div (s : Fin 14 × Fin 14) : (row s).val / 16 = s.1.val := by
  have := s.1.isLt; have := s.2.isLt
  show (s.1.val * 16 + s.2.val) / 16 = s.1.val
  omega

theorem row_mod_eq (s : Fin 14 × Fin 14) : (row s).val % 16 = s.2.val := by
  have := s.1.isLt; have := s.2.isLt
  show (s.1.val * 16 + s.2.val) % 16 = s.2.val
  omega

/-- The table as the host computes it. -/
def tableR : FVec Ideal S224x224 .f32 := fullOf (passN 9 le_rfl)

/-- The table at two pixels' rows. -/
theorem tableR_pixel (r s : Fin 14 × Fin 14) : tableR (ix2 (row r) (row s)) = ((blob {s} r.1 r.2 : ℝ) : EReal) := by
  unfold tableR
  rw [fullOf_apply, dif_pos ⟨by rw [row_div]; exact r.1.isLt, row_mod r, by rw [row_div]; exact s.1.isLt, row_mod s⟩,
    pass_apply, pass_apply, ← EReal.coe_mul, blob_single]
  congr 3 <;> apply Fin.ext <;> first | exact row_div _ | exact row_mod_eq _

/-- The table at a row that is no pixel's. -/
theorem tableR_pad (p : Fin 224) (s : Fin 224) (hp : 14 ≤ p.val % 16) : tableR (ix2 p s) = 0 := by
  unfold tableR
  rw [fullOf_apply, dif_neg fun h => by omega]

/-- The whole table at an entry. -/
theorem tableOf_apply (c : FVec Ideal S224x224 .f32) (r : Fin 226) (s : Fin 224) : tableOf c (ix2 r s)
    = if h : r.val < 224 then c (ix2 ⟨r.val, h⟩ s)
      else if r.val - 224 < 1 then Finset.fold max ⊥ (fun x : Fin 224 => c (ix2 x s)) univ
      else ∑ x : Fin 224, c (ix2 x s) * c (ix2 x s) := by
  pointwise [tableOf]
  rw [ofBits_ninf]
  rfl

/-- The table that the kernel reads is the table of blobs. -/
theorem isTable : IsTable (tableOf (F := Ideal) (fullOf (passN 9 le_rfl))) where
  pixel r s := by
    rw [tableOf_apply, dif_pos (row r).isLt, ← blob_single]
    exact tableR_pixel r s
  pad p s hp := by
    rw [tableOf_apply, dif_pos p.isLt]
    exact tableR_pad p (row s) hp
  top s := by
    rw [tableOf_apply, dif_neg (by decide), if_pos (by decide)]
    refine fold_max_eq _ _ (fun p => ?_) ?_
    · by_cases hp : p.val % 16 < 14
      · obtain ⟨r, rfl⟩ := row_surj p hp
        exact (tableR_pixel r s).trans_le (EReal.coe_le_coe_iff.2 (blob_le_mx _ _ _))
      · exact (tableR_pad p (row s) (by omega)).trans_le (EReal.coe_nonneg.2 (mx_nonneg _))
    · obtain ⟨y, x, h⟩ := exists_blob_eq_mx {s}
      exact ⟨row (y, x), (tableR_pixel (y, x) s).trans (by rw [h])⟩
  sq s := by
    rw [tableOf_apply, dif_neg (by decide), if_neg (by decide)]
    refine (sum_rows _ fun p hp => ?_).trans ?_
    · exact (congrArg₂ (· * ·) (tableR_pad p (row s) hp) rfl).trans (zero_mul _)
    · simp only [coe_sum, EReal.coe_mul]
      exact Finset.sum_congr rfl fun y _ => Finset.sum_congr rfl fun x _ =>
        congrArg₂ (· * ·) (tableR_pixel (y, x) s) (tableR_pixel (y, x) s)

end Cert.Pose
-- ==== Proof.RefFilter.lean ====
/-
  The reference's filter on the exact reals: the symmetric padding of an axis by 4, the nine weighted shifts along the rows
  and along the columns, and the filtered maps with their least and largest values.
-/
module

public import proofs.«01_k».proof.Proof.RefMaps
public import proofs.«01_k».proof.Proof.Host

@[expose] public section

noncomputable section

namespace Cert.Pose

open Idealize.ShloMosaic Idealize.ShloMosaic.TcCoe Idealize.ShloMosaic.Tactic
open Finset
open Cert.ReferenceIdeal Cert.ReferenceIdeal.Gen Cert.ReferenceIdeal.Read

variable (t v : S4096x14x2.Idx → EReal)

/-- The rows padded by 4 symmetrically. -/
theorem pad_rows (b : Fin 4096) (c : Fin 18) (n : Fin 22) (x : Fin 14) :
    val_main_v34 (F := Ideal) t v (ix4 b c n x) = val_main_v32 (F := Ideal) t v (ix4 b c (refl n.val) x) := by
  unfold val_main_v34 val_main_call3_v6 val_main_call3_v5 val_main_call3_v3 val_main_call3_v2 val_main_call3_v1
  generalize val_main_v32 (F := Ideal) t v = M
  pointwise
  fin_cases n <;> rfl

/-- The columns padded by 4 symmetrically. -/
theorem pad_cols (b : Fin 4096) (c : Fin 18) (y : Fin 14) (n : Fin 22) :
    val_main_v72 (F := Ideal) t v (ix4 b c y n) = val_main_v71 (F := Ideal) t v (ix4 b c y (refl n.val)) := by
  unfold val_main_v72 val_main_call4_v6 val_main_call4_v5 val_main_call4_v3 val_main_call4_v2 val_main_call4_v1
  generalize val_main_v71 (F := Ideal) t v = M
  pointwise
  fin_cases n <;> rfl

theorem slices_rows (k : ℕ) (hk : k < 9) : S4096x18x22x14.Slices ![0, 0, k, 0] S4096x18x14x14 :=
  ⟨rfl, fun a => match a with
    | ⟨0, _⟩ => by show 0 + 4096 ≤ 4096; omega
    | ⟨1, _⟩ => by show 0 + 18 ≤ 18; omega
    | ⟨2, _⟩ => by show k + 14 ≤ 22; omega
    | ⟨3, _⟩ => by show 0 + 14 ≤ 14; omega⟩

theorem slices_cols (k : ℕ) (hk : k < 9) : S4096x18x14x22.Slices ![0, 0, 0, k] S4096x18x14x14 :=
  ⟨rfl, fun a => match a with
    | ⟨0, _⟩ => by show 0 + 4096 ≤ 4096; omega
    | ⟨1, _⟩ => by show 0 + 18 ≤ 18; omega
    | ⟨2, _⟩ => by show 0 + 14 ≤ 14; omega
    | ⟨3, _⟩ => by show k + 14 ≤ 22; omega⟩

/-- The first `n` of the nine terms `weight * S i`, added up from zero. -/
def weighted (S : (i : ℕ) → i < 9 → FVec Ideal S4096x18x14x14 .f32) : (n : ℕ) → n ≤ 9 → FVec Ideal S4096x18x14x14 .f32
  | 0, _ => broadcastInDim S4096x18x14x14 ![] bcast_S_S4096x18x14x14 (constant S_ .f32 0x00000000#32)
  | n + 1, h => addf (weighted S n (by omega))
      (mulf (broadcastInDim S4096x18x14x14 ![] bcast_S_S4096x18x14x14 (constant S_ .f32 (weightW ⟨n, h⟩))) (S n h))

/-- Such a sum at an index where the terms are real numbers. -/
theorem weighted_apply (S : (i : ℕ) → i < 9 → FVec Ideal S4096x18x14x14 .f32) (j : S4096x18x14x14.Idx) (r : ℕ → ℝ)
    (hS : ∀ i hi, S i hi j = ((r i : ℝ) : EReal)) (n : ℕ) (hn : n ≤ 9) :
    weighted S n hn j = ((∑ i : Fin n, K (Fin.castLE hn i) * r i.val : ℝ) : EReal) := by
  induction n with
  | zero =>
    show Ideal.ofBits .f32 0x00000000#32 = _
    rw [Ideal.ofBits_zero_f32, Finset.univ_eq_empty, Finset.sum_empty, EReal.coe_zero]
  | succ n ih =>
    rw [Fin.sum_univ_castSucc, EReal.coe_add, EReal.coe_mul]
    exact congrArg₂ (· + ·) (ih (by omega)) (congrArg₂ (· * ·) (weightW_eq _) (hS n hn))

/-- The pass along the rows. -/
theorem pass_rows (b : Fin 4096) (c : Fin 18) (y x : Fin 14) : val_main_v71 (F := Ideal) t v (ix4 b c y x)
    = ((∑ i : Fin 9, K i * ind (chan (joints t v b) c.val) (refl (y.val + i.val)) x : ℝ) : EReal) := by
  have e : val_main_v71 (F := Ideal) t v = weighted (fun i hi =>
      extractStridedSlice S4096x18x14x14 ![0, 0, i, 0] (val_main_v34 (F := Ideal) t v) (slices_rows i hi)) 9 le_rfl := rfl
  rw [e]
  refine weighted_apply _ _ (fun i => ind (chan (joints t v b) c.val) (refl (y.val + i)) x) (fun i hi => ?_) 9 le_rfl
  rw [← ref_maps, ← pad_rows t v b c ⟨y.val + i, by have := y.isLt; omega⟩ x]
  refine congrArg (val_main_v34 (F := Ideal) t v) (funext fun a => Fin.ext ?_)
  match a with
  | ⟨0, _⟩ => show 0 + b.val = b.val; omega
  | ⟨1, _⟩ => show 0 + c.val = c.val; omega
  | ⟨2, _⟩ => show i + y.val = y.val + i; omega
  | ⟨3, _⟩ => show 0 + x.val = x.val; omega

/-- The pass along the columns: the filtered maps. -/
theorem filtered (b : Fin 4096) (c : Fin 18) (y x : Fin 14) :
    val_main_v109 (F := Ideal) t v (ix4 b c y x) = ((blob (chan (joints t v b) c.val) y x : ℝ) : EReal) := by
  have e : val_main_v109 (F := Ideal) t v = weighted (fun i hi =>
      extractStridedSlice S4096x18x14x14 ![0, 0, 0, i] (val_main_v72 (F := Ideal) t v) (slices_cols i hi)) 9 le_rfl := rfl
  rw [e, ← blob_eq]
  refine weighted_apply _ _
    (fun j => ∑ i : Fin 9, K i * ind (chan (joints t v b) c.val) (refl (y.val + i.val)) (refl (x.val + j))) (fun i hi => ?_) 9 le_rfl
  rw [← pass_rows, ← pad_cols t v b c y ⟨x.val + i, by have := x.isLt; omega⟩]
  refine congrArg (val_main_v72 (F := Ideal) t v) (funext fun a => Fin.ext ?_)
  match a with
  | ⟨0, _⟩ => show 0 + b.val = b.val; omega
  | ⟨1, _⟩ => show 0 + c.val = c.val; omega
  | ⟨2, _⟩ => show 0 + y.val = y.val; omega
  | ⟨3, _⟩ => show i + x.val = x.val + i; omega

/-- A running minimum from the greatest value is any bound that is attained. -/
theorem fold_min_eq {ι : Type*} [Fintype ι] (f : ι → EReal) (b : EReal) (hb : ∀ i, b ≤ f i) (he : ∃ i, f i = b) :
    Finset.fold min ⊤ f univ = b := by
  obtain ⟨i, hi⟩ := he
  refine le_antisymm ?_ (Finset.le_inf fun i _ => hb i)
  rw [← hi]
  exact Finset.inf_le (f := f) (Finset.mem_univ i)

theorem ofBits_inf : Ideal.ofBits .f32 0x7F800000#32 = ⊤ := by
  simp [Ideal.ofBits, Ideal.ieee]

/-- A filtered map's least value is zero. -/
theorem least (b : Fin 4096) (c : Fin 18) : val_main_v113 (F := Ideal) t v (ix2 b c) = 0 := by
  have hf := filtered t v b c
  unfold val_main_v113
  generalize val_main_v109 (F := Ideal) t v = M at hf ⊢
  pointwise [val_main_cst_30]
  rw [ofBits_inf]
  refine fold_min_eq _ _ (fun i => ?_) ?_
  · rw [hf]
    exact EReal.coe_nonneg.2 (blob_nonneg _ _ _)
  · obtain ⟨y, x, h⟩ := exists_blob_zero _ (chan_card (joints t v b) (joints_card t v b) c.val)
    exact ⟨(y, x), (hf y x).trans (by rw [h, EReal.coe_zero])⟩

/-- A filtered map's largest value. -/
theorem largest (b : Fin 4096) (c : Fin 18) :
    val_main_v115 (F := Ideal) t v (ix2 b c) = ((mx (chan (joints t v b) c.val) : ℝ) : EReal) := by
  have hf := filtered t v b c
  unfold val_main_v115
  generalize val_main_v109 (F := Ideal) t v = M at hf ⊢
  pointwise [val_main_cst_31]
  rw [ofBits_ninf]
  refine fold_max_eq _ _ (fun i => ?_) ?_
  · rw [hf]
    exact EReal.coe_le_coe_iff.2 (blob_le_mx _ _ _)
  · obtain ⟨y, x, h⟩ := exists_blob_eq_mx (chan (joints t v b) c.val)
    exact ⟨(y, x), (hf y x).trans (by rw [h])⟩

end Cert.Pose
-- ==== Proof.Body.lean ====
/-
  The kernel's body as 18 equal steps: what one grid point leaves in its output block, written channel by channel over
  the four input blocks, at any scalars.
-/
module

public import proofs.«01_k».proof.Proof.Gen.KernelIdeal.Frame
public import Idealize.ShloMosaic.Lib.Pipeline.Value

@[expose] public section

set_option maxRecDepth 65536

noncomputable section

namespace Cert.Pose

open Idealize.ShloMosaic Idealize.ShloMosaic.TcCoe Idealize.ShloMosaic.Tactic
open Idealize.SL.Sem
open Cert.KernelIdeal Cert.KernelIdeal.Gen

variable {F : FTy → Type} [FloatOps F]

theorem slices_row (k : ℕ) (hk : k < 14) : S14x512.Slices ![k, 0] S1x512 :=
  ⟨rfl, fun a => match a with
    | ⟨0, _⟩ => by show k + 1 ≤ 14; omega
    | ⟨1, _⟩ => by show 0 + 512 ≤ 512; omega⟩

theorem inb_chan (c : ℕ) (hc : c < 18) : ∀ a, ![c, 0, 0, 0] a + S1x14x14x512.size a ≤ S18x14x14x512.size a :=
  fun a => match a with
    | ⟨0, _⟩ => by show c + 1 ≤ 18; omega
    | ⟨1, _⟩ => by show 0 + 14 ≤ 14; omega
    | ⟨2, _⟩ => by show 0 + 14 ≤ 14; omega
    | ⟨3, _⟩ => by show 0 + 512 ≤ 512; omega

/-- Which of the 224 rows a joint's position word names, in each lane. -/
def hot (pos : IVec S14x512 32) (k : ℕ) (hk : k < 14) : IVec S224x512 1 :=
  cmpi .eq (iota .tc S224x512 32 [0] iota_S224x512_d0_w32)
    (broadcastTo S224x512 (extractStridedSlice S1x512 ![k, 0] pos (slices_row k hk)) broadcasts_S1x512_S224x512)

/-- The rows that any of the three joints of a group names. -/
def hot3 (pos : IVec S14x512 32) (g : ℕ) (hg : g < 4) : IVec S224x512 1 :=
  ori (ori (hot pos (3 * g) (by omega)) (hot pos (3 * g + 1) (by omega))) (hot pos (3 * g + 2) (by omega))

/-- The table applied to a mask of rows. -/
def spread (T : FVec F S226x224 .bf16) (d : IVec S224x512 1) : FVec F S226x512 .f32 :=
  matmul dot_S226x224_S224x512_S226x512_1_0_0_1_n_n none T
    (truncf .bf16 (sitofp .f32 (extui 32 d natLt_1_32)) bitsLt_bf16_f32) (constant S226x512 .f32 0x00000000#32)

/-- The 224 rows of the blob. -/
def blobRows (f : FVec F S226x512 .f32) : FVec F S224x512 .f32 :=
  extractStridedSlice S224x512 ![0, 0] f slices_S226x512_o0_0_S224x512

/-- The heatmap block of one channel. -/
def heat (H : Vec F S18x14x14x512 .f32) (c : ℕ) (hc : c < 18) : FVec F S14x14x512 .f32 :=
  shapeCast S14x14x512 (View.ld H (Rect.unit ![c, 0, 0, 0] S1x14x14x512.size (inb_chan c hc)))
    shapeCasts_S1x14x14x512_S14x14x512

/-- The sum over the two pixel axes, one row of lanes. -/
def pixelSum (x : FVec F S14x14x512 .f32) : FVec F S1x512 .f32 :=
  shapeCast S1x512 (multiReduction .add [0, 1] S512 x 0x00000000#32 reduces_S14x14x512_S512 (.inl rfl) rfl)
    shapeCasts_S512_S1x512

/-- The largest value guarded: one where it is not positive. -/
def guarded (mrow : FVec F S1x512 .f32) : FVec F S1x512 .f32 :=
  select (cmpf .ogt mrow (broadcast S1x512 (Scalar.ofBits .f32 0x00000000#32))) mrow
    (broadcast S1x512 (Scalar.ofBits .f32 0x3F800000#32))

/-- The mask of a channel: one where the largest value is positive, zero elsewhere. -/
def maskRow (mrow : FVec F S1x512 .f32) : FVec F S1x512 .f32 :=
  sitofp .f32 (extui 32 (cmpf .ogt mrow (broadcast S1x512 (Scalar.ofBits .f32 0x00000000#32))) natLt_1_32)

/-- What a channel adds to the loss, lane by lane. -/
def lossRow (fm : FVec F S224x512 .f32) (mrow s2 : FVec F S1x512 .f32) (h : FVec F S14x14x512 .f32) : FVec F S1x512 .f32 :=
  mulf (maskRow mrow)
    (addf
      (subf (pixelSum (mulf h h))
        (mulf (broadcast S1x512 (Scalar.ofBits .f32 0x40000000#32))
          (divf
            (pixelSum (mulf h
              (extractStridedSlice S14x14x512 ![0, 0, 0] (shapeCast S14x16x512 fm shapeCasts_S224x512_S14x16x512)
                slices_S14x16x512_o0_0_0_S14x14x512)))
            (guarded mrow))))
      (divf s2 (mulf (guarded mrow) (guarded mrow))))

/-- The largest value of a joint's blob: the table's row 224. -/
def jointMax (f : FVec F S226x512 .f32) : FVec F S1x512 .f32 :=
  extractStridedSlice S1x512 ![224, 0] f slices_S226x512_o224_0_S1x512
/-- The sum of squares of a joint's blob: the table's row 225. -/
def jointSq (f : FVec F S226x512 .f32) : FVec F S1x512 .f32 :=
  extractStridedSlice S1x512 ![225, 0] f slices_S226x512_o225_0_S1x512
/-- The largest value of a group's blob. -/
def groupMax (fm : FVec F S224x512 .f32) : FVec F S1x512 .f32 :=
  shapeCast S1x512 (multiReduction .maximumf [0] S512 fm 0xFF800000#32 reduces_S224x512_S512 (.inl rfl) rfl)
    shapeCasts_S512_S1x512
/-- The sum of squares of a group's blob. -/
def groupSq (fm : FVec F S224x512 .f32) : FVec F S1x512 .f32 :=
  shapeCast S1x512 (multiReduction .add [0] S512 (mulf fm fm) 0x00000000#32 reduces_S224x512_S512 (.inl rfl) rfl)
    shapeCasts_S512_S1x512

section Steps
variable (T : FVec F S226x224 .bf16) (pos : IVec S14x512 32) (H : Vec F S18x14x14x512 .f32)

/-- A joint's blob, all 226 rows. -/
def jointF (k : ℕ) (hk : k < 14) : FVec F S226x512 .f32 := spread T (hot pos k hk)
/-- A group's blob, all 226 rows. -/
def groupF (g : ℕ) (hg : g < 4) : FVec F S226x512 .f32 := spread T (hot3 pos g hg)

/-- A joint's loss. -/
def jointLoss (k : ℕ) (hk : k < 14) : FVec F S1x512 .f32 :=
  lossRow (blobRows (jointF T pos k hk)) (jointMax (jointF T pos k hk)) (jointSq (jointF T pos k hk)) (heat H k (by omega))
/-- A joint's mask. -/
def jointMask (k : ℕ) (hk : k < 14) : FVec F S1x512 .f32 := maskRow (jointMax (jointF T pos k hk))

/-- A group's loss. -/
def groupLoss (g : ℕ) (hg : g < 4) : FVec F S1x512 .f32 :=
  lossRow (blobRows (groupF T pos g hg)) (groupMax (blobRows (groupF T pos g hg))) (groupSq (blobRows (groupF T pos g hg)))
    (heat H (14 + g) (by omega))
/-- A group's mask. -/
def groupMask (g : ℕ) (hg : g < 4) : FVec F S1x512 .f32 := maskRow (groupMax (blobRows (groupF T pos g hg)))

/-- The running loss after the first `n` joints. -/
def accJ : (n : ℕ) → n ≤ 14 → FVec F S1x512 .f32
  | 0, _ => broadcast S1x512 (Scalar.ofBits .f32 0x00000000#32)
  | n + 1, h => addf (accJ n (by omega)) (jointLoss T pos H n (by omega))
/-- The running count after the first `n` joints. -/
def cntJ : (n : ℕ) → n ≤ 14 → FVec F S1x512 .f32
  | 0, _ => broadcast S1x512 (Scalar.ofBits .f32 0x00000000#32)
  | n + 1, h => addf (cntJ n (by omega)) (jointMask T pos n (by omega))
/-- The running loss after the joints and the first `n` groups. -/
def accG : (n : ℕ) → n ≤ 4 → FVec F S1x512 .f32
  | 0, _ => accJ T pos H 14 le_rfl
  | n + 1, h => addf (accG n (by omega)) (groupLoss T pos H n (by omega))
/-- The running count after the joints and the first `n` groups. -/
def cntG : (n : ℕ) → n ≤ 4 → FVec F S1x512 .f32
  | 0, _ => cntJ T pos 14 le_rfl
  | n + 1, h => addf (cntG n (by omega)) (groupMask T pos n (by omega))
end Steps

/-- The sum over the 512 lanes. -/
def laneSum (x : FVec F S1x512 .f32) : F .f32 :=
  extractAt ![0, 0, 0]
    (shapeCast S1x1x1
      (multiReduction .add [1, 2] S1 (shapeCast S1x1x512 x shapeCasts_S1x512_S1x1x512) 0x00000000#32 reduces_S1x1x512_S1
        (.inl rfl) rfl)
      shapeCasts_S1_S1x1x1)
    inpos_S1x1x1_p0_0_0

/-- The position words of a block, from the coordinates' and the visibilities' blocks. -/
def posB (x0 : Vec F S14x2x512 .f32) (x1 : Vec F S14x2x512 .f32) : IVec S14x512 32 :=
  k0_pay2 (View.ld x0 (Rect.unit ![0, 0, 0] S14x2x512.size inb_S14x2x512_S14x2x512_0_0_0))
    (View.ld x1 (Rect.unit ![0, 0, 0] S14x1x512.size inb_S14x2x512_S14x1x512_0_0_0))

/-- The table as the body reads it. -/
def tabB (x2 : Vec F S226x224 .bf16) : FVec F S226x224 .bf16 :=
  k0_pay1 (View.ld x2 (Rect.unit ![0, 0] S226x224.size inb_S226x224_S226x224_0_0))

variable (m : (ℓ : Loc nD τ sig) → Buf (Elt F) ℓ)

set_option maxHeartbeats 4000000 in
/-- What a grid point leaves in its output block: the loss in the first word, the count in the second. -/
theorem outs_pieces (c : Dev nD) (t : Fin cfg0.N) :
    outsAt0 m c t = View.canon (Val := Elt F)
      [⟨Rect.unit (s := S1x1x2) ![0, 0, 1] S1x1x1.size inb_S1x1x2_S1x1x1_0_0_1,
          fun _ => laneSum (cntG (tabB (iblk m c 2 t)) (posB (iblk m c 0 t) (iblk m c 1 t)) 4 le_rfl)⟩,
        ⟨Rect.unit (s := S1x1x2) ![0, 0, 0] S1x1x1.size inb_S1x1x2_S1x1x1_0_0_0,
          fun _ => laneSum (accG (tabB (iblk m c 2 t)) (posB (iblk m c 0 t) (iblk m c 1 t)) (iblk m c 3 t) 4 le_rfl)⟩] := by
  unfold outsAt0 out0_A_4
  rw [View.read_writes_eq_canon _ _ _ (cover0_A_4 c _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rfl

end Cert.Pose
-- ==== Proof.Lane.lean ====
/-
  The body's steps at one lane, at the exact reals: what a channel adds to the loss and to the count.
-/
module

public import proofs.«01_k».proof.Proof.Joints
public import proofs.«01_k».proof.Proof.Body
public import Idealize.ShloMosaic.Lib.Pointwise

@[expose] public section

set_option maxRecDepth 65536

noncomputable section

namespace Cert.Pose

open Idealize.ShloMosaic
open Finset
open Cert.KernelIdeal Cert.KernelIdeal.Gen

/-- A sum over the first two axes of three, at a kept coordinate. -/
theorem reduceAdd_pixels (x : FVec Ideal S14x14x512 .f32) (l : Fin 512) :
    multiReduction .add [0, 1] S512 x 0x00000000#32 reduces_S14x14x512_S512 (.inl rfl) rfl (ix1 l)
      = ∑ y : Fin 14, ∑ z : Fin 14, x (ix3 y z l) := by
  have hf : ∀ i : S14x14x512.Idx, reduces_S14x14x512_S512.drop i = ix1 l ↔ ∃ k : Fin 14 × Fin 14, ix3 k.1 k.2 l = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      match b with
      | ⟨0, _⟩ => rfl
  refine (Finset.sum_filter_eq_sum_of_fiber _ (fun k : Fin 14 × Fin 14 => ix3 k.1 k.2 l)
    (fun _ _ e => Prod.ext (congrFun e 0) (congrFun e 1)) hf x).trans ?_
  rw [Fintype.sum_prod_type]

/-- The sum over the pixels in a lane. -/
theorem pixelSum_apply (x : FVec Ideal S14x14x512 .f32) (l : Fin 512) :
    pixelSum x (ix2 0 l) = ∑ y : Fin 14, ∑ z : Fin 14, x (ix3 y z l) := by
  rw [← reduceAdd_pixels]
  unfold pixelSum
  generalize multiReduction (F := Ideal) .add [0, 1] S512 x 0x00000000#32 reduces_S14x14x512_S512 (.inl rfl) rfl = g
  pointwise

/-- A one-bit word as a number. -/
theorem sitofp_bit (b : BitVec 1) :
    Scalar.sitofp (F := Ideal) .f32 (BitVec.setWidth 32 b) = if b = 1#1 then 1 else 0 := by
  have h : b = 0#1 ∨ b = 1#1 := by revert b; decide
  rcases h with rfl | rfl <;> simp [Ideal.scalar_sitofp_def]

/-- The table applied to a mask, at a row and a lane. -/
theorem spread_apply (T : FVec Ideal S226x224 .bf16) (d : IVec S224x512 1) (r : Fin 226) (l : Fin 512) :
    spread T d (ix2 r l) = ∑ p : Fin 224, T (ix2 r p) * (if d (ix2 p l) = 1#1 then 1 else 0) := by
  pointwise [spread]
  refine Finset.sum_congr rfl fun p _ => ?_
  congr 1
  exact sitofp_bit _

/-- The mask `d` names, in lane `l`, exactly the rows of the pixels `S`. -/
def Names (d : IVec S224x512 1) (l : Fin 512) (S : Finset (Fin 14 × Fin 14)) : Prop :=
  ∀ p : Fin 224, d (ix2 p l) = 1#1 ↔ ∃ s ∈ S, row s = p

section Spread
variable {T : FVec Ideal S226x224 .bf16} (hT : IsTable T) {d : IVec S224x512 1} {l : Fin 512}
  {S : Finset (Fin 14 × Fin 14)} (hd : Names d l S)
include hT hd

/-- The blob of the named pixels, at a pixel's row. -/
theorem spread_row (y x : Fin 14) : blobRows (spread T d) (ix2 (row (y, x)) l) = ((blob S y x : ℝ) : EReal) := by
  have e : blobRows (spread T d) (ix2 (row (y, x)) l) = spread T d (ix2 ⟨(row (y, x)).val, (row (y, x)).isLt.trans (by decide)⟩ l) := by
    generalize spread T d = f
    pointwise [blobRows]
  rw [e, spread_apply, sum_mask _ _ S hd, blob_eq_sum, coe_sum]
  exact Finset.sum_congr rfl fun s _ => hT.pixel (y, x) s

/-- A row that is no pixel's is zero. -/
theorem spread_pad (p : Fin 224) (hp : 14 ≤ p.val % 16) : blobRows (spread T d) (ix2 p l) = 0 := by
  have e : blobRows (spread T d) (ix2 p l) = spread T d (ix2 ⟨p.val, p.isLt.trans (by decide)⟩ l) := by
    generalize spread T d = f
    pointwise [blobRows]
  rw [e, spread_apply, sum_mask _ _ S hd]
  exact Finset.sum_eq_zero fun s _ => hT.pad p s hp

/-- The largest value of a joint's blob. -/
theorem spread_top (hS : S = ∅ ∨ ∃ s, S = {s}) : jointMax (spread T d) (ix2 0 l) = ((mx S : ℝ) : EReal) := by
  have e : jointMax (spread T d) (ix2 0 l) = spread T d (ix2 224 l) := by
    generalize spread T d = f
    pointwise [jointMax]
  rw [e, spread_apply, sum_mask _ _ S hd]
  rcases hS with rfl | ⟨s, rfl⟩
  · rw [Finset.sum_empty, mx_empty, EReal.coe_zero]
  · rw [Finset.sum_singleton, hT.top]

/-- The sum of squares of a joint's blob. -/
theorem spread_sq (hS : S = ∅ ∨ ∃ s, S = {s}) :
    jointSq (spread T d) (ix2 0 l) = ((∑ y, ∑ x, blob S y x * blob S y x : ℝ) : EReal) := by
  have e : jointSq (spread T d) (ix2 0 l) = spread T d (ix2 225 l) := by
    generalize spread T d = f
    pointwise [jointSq]
  rw [e, spread_apply, sum_mask _ _ S hd]
  rcases hS with rfl | ⟨s, rfl⟩
  · rw [Finset.sum_empty]
    simp only [blob_empty, mul_zero, Finset.sum_const_zero, EReal.coe_zero]
  · rw [Finset.sum_singleton, hT.sq]

end Spread

section Group
variable {fm : FVec Ideal S224x512 .f32} {l : Fin 512} {S : Finset (Fin 14 × Fin 14)}
  (hrow : ∀ y x, fm (ix2 (row (y, x)) l) = ((blob S y x : ℝ) : EReal))
  (hpad : ∀ p : Fin 224, 14 ≤ p.val % 16 → fm (ix2 p l) = 0)
include hrow hpad

/-- The largest value of a group's blob. -/
theorem groupMax_apply : groupMax fm (ix2 0 l) = ((mx S : ℝ) : EReal) := by
  pointwise [groupMax]
  rw [ofBits_ninf]
  refine fold_max_eq _ _ (fun p => ?_) ?_
  · by_cases hp : p.val % 16 < 14
    · obtain ⟨s, rfl⟩ := row_surj p hp
      rw [hrow s.1 s.2]
      exact EReal.coe_le_coe_iff.2 (blob_le_mx S _ _)
    · rw [hpad p (by omega)]
      exact EReal.coe_nonneg.2 (mx_nonneg S)
  · obtain ⟨y, x, h⟩ := exists_blob_eq_mx S
    exact ⟨row (y, x), by rw [hrow, h]⟩

/-- The sum of squares of a group's blob. -/
theorem groupSq_apply : groupSq fm (ix2 0 l) = ((∑ y, ∑ x, blob S y x * blob S y x : ℝ) : EReal) := by
  pointwise [groupSq]
  rw [sum_rows _ (fun p hp => by rw [hpad p hp, mul_zero])]
  simp only [hrow, coe_sum, EReal.coe_mul]

end Group

/-- A mask from the largest value. -/
theorem maskRow_apply (mrow : FVec Ideal S1x512 .f32) (l : Fin 512) (S : Finset (Fin 14 × Fin 14))
    (hm : mrow (ix2 0 l) = ((mx S : ℝ) : EReal)) : maskRow mrow (ix2 0 l) = ((act S : ℝ) : EReal) := by
  pointwise [maskRow]
  refine (sitofp_bit _).trans ?_
  rw [hm, act]
  simp only [← mx_pos_iff, EReal.coe_pos]
  by_cases h : 0 < mx S <;> simp [h]

/-- What a channel adds to the loss. -/
theorem lossRow_apply (fm : FVec Ideal S224x512 .f32) (mrow s2 : FVec Ideal S1x512 .f32) (h : FVec Ideal S14x14x512 .f32)
    (l : Fin 512) (S : Finset (Fin 14 × Fin 14)) (hr : Fin 14 → Fin 14 → ℝ)
    (hrow : ∀ y x, fm (ix2 (row (y, x)) l) = ((blob S y x : ℝ) : EReal))
    (hm : mrow (ix2 0 l) = ((mx S : ℝ) : EReal))
    (hs : s2 (ix2 0 l) = ((∑ y, ∑ x, blob S y x * blob S y x : ℝ) : EReal))
    (hh : ∀ y x, h (ix3 y x l) = ((hr y x : ℝ) : EReal)) :
    lossRow fm mrow s2 h (ix2 0 l) = ((term S hr : ℝ) : EReal) := by
  have hg : guarded mrow (ix2 0 l) = ((if 0 < mx S then mx S else 1 : ℝ) : EReal) := by
    pointwise [guarded]
    rw [hm]
    simp only [EReal.coe_pos]
    split_ifs <;> rfl
  have hg0 : (if 0 < mx S then mx S else 1 : ℝ) ≠ 0 := by split_ifs with h0 <;> [exact h0.ne'; exact one_ne_zero]
  have h2 : Ideal.ofBits .f32 0x40000000#32 = ((2 : ℝ) : EReal) := by
    simp [Ideal.ofBits, Ideal.ieee, -EReal.coe_mul]; norm_num
  have hfm : ∀ y x : Fin 14, extractStridedSlice S14x14x512 ![0, 0, 0] (shapeCast S14x16x512 fm shapeCasts_S224x512_S14x16x512)
                slices_S14x16x512_o0_0_0_S14x14x512 (ix3 y x l) = ((blob S y x : ℝ) : EReal) := by
    intro y x
    rw [← hrow]
    pointwise
    rfl
  have e : lossRow fm mrow s2 h (ix2 0 l) = maskRow mrow (ix2 0 l) * (pixelSum (mulf h h) (ix2 0 l)
      - Ideal.ofBits .f32 0x40000000#32 * Ideal.div (pixelSum (mulf h
              (extractStridedSlice S14x14x512 ![0, 0, 0] (shapeCast S14x16x512 fm shapeCasts_S224x512_S14x16x512)
                slices_S14x16x512_o0_0_0_S14x14x512)) (ix2 0 l)) (guarded mrow (ix2 0 l))
      + Ideal.div (s2 (ix2 0 l)) (guarded mrow (ix2 0 l) * guarded mrow (ix2 0 l))) := by
    unfold lossRow
    generalize guarded mrow = a
    generalize maskRow mrow = b
    generalize pixelSum (F := Ideal) _ = c
    generalize pixelSum (F := Ideal) _ = d
    pointwise
  rw [e, maskRow_apply mrow l S hm, hg, pixelSum_apply, pixelSum_apply, h2, hs, ← term_eq S hr]
  rw [← EReal.coe_mul (if 0 < mx S then mx S else 1 : ℝ), Ideal.div_coe hg0, Ideal.div_coe (mul_ne_zero hg0 hg0)]
  have e1 : ∑ y : Fin 14, ∑ x : Fin 14, (mulf h h) (ix3 y x l) = ((∑ y, ∑ x, hr y x * hr y x : ℝ) : EReal) := by
    simp only [coe_sum, EReal.coe_mul]
    refine Finset.sum_congr rfl fun y _ => Finset.sum_congr rfl fun x _ => ?_
    rw [← hh]; rfl
  have e2 : ∑ y : Fin 14, ∑ x : Fin 14, (mulf h
              (extractStridedSlice S14x14x512 ![0, 0, 0] (shapeCast S14x16x512 fm shapeCasts_S224x512_S14x16x512)
                slices_S14x16x512_o0_0_0_S14x14x512)) (ix3 y x l) = ((∑ y, ∑ x, hr y x * blob S y x : ℝ) : EReal) := by
    simp only [coe_sum, EReal.coe_mul]
    refine Finset.sum_congr rfl fun y _ => Finset.sum_congr rfl fun x _ => ?_
    rw [← hh, ← hfm]; rfl
  rw [e1, e2]
  simp only [← EReal.coe_mul, ← EReal.coe_sub, ← EReal.coe_add, one_div, div_eq_mul_inv, one_mul]

/-- The sum over the lanes. -/
theorem laneSum_apply (x : FVec Ideal S1x512 .f32) : laneSum x = ∑ l : Fin 512, x (ix2 0 l) := by
  pointwise [laneSum, extractAt]
  exact Fin.sum_univ_one _

/-- A joint's mask at a row and a lane: whether the row is the position word's. -/
theorem hot_apply (pos : IVec S14x512 32) (k : ℕ) (hk : k < 14) (p : Fin 224) (l : Fin 512) :
    hot pos k hk (ix2 p l) = IntOp.cmpi .eq (BitVec.ofNat 32 p.val) (pos (ix2 ⟨k, hk⟩ l)) := by
  pointwise [hot]

/-- A channel's heatmap block at a pixel and a lane. -/
theorem heat_apply (H : Vec Ideal S18x14x14x512 .f32) (k : ℕ) (hk : k < 18) (y x : Fin 14) (l : Fin 512) :
    heat H k hk (ix3 y x l) = H (ix4 ⟨k, hk⟩ y x l) := by
  unfold heat
  refine (shapeCast_apply _ _ _ (ix4 0 y x l) ?_).trans ?_
  · rw [Shape.rowMajor_val_four, Shape.rowMajor_val_three]
    show ((0 * 14 + y.val) * 14 + x.val) * 512 + l.val = (y.val * 14 + x.val) * 512 + l.val
    omega
  · refine congrArg H ?_
    funext a
    apply Fin.ext
    match a with
    | ⟨0, _⟩ => show k + 1 * 0 = k; omega
    | ⟨1, _⟩ => show 0 + 1 * y.val = y.val; omega
    | ⟨2, _⟩ => show 0 + 1 * x.val = x.val; omega
    | ⟨3, _⟩ => show 0 + 1 * l.val = l.val; omega

/-- The position word of a joint in a lane: the pixel's row where the joint is visible, no row where it is not. -/
theorem posB_apply (x0 x1 : Vec Ideal S14x2x512 .f32) (k : Fin 14) (l : Fin 512) :
    posB x0 x1 (ix2 k l) = if x1 (ix3 k 0 l) = 1 then
        IntOp.addi (IntOp.muli (pixW (x0 (ix3 k 1 l))) 16#32) (pixW (x0 (ix3 k 0 l)))
      else 4294967295#32 := by
  pointwise [posB, k0_pay2]
  rfl

/-- The table as read is the table's block. -/
theorem tabB_apply (x0 : Vec Ideal S226x224 .bf16) (k : Fin 226) (l : Fin 224) : tabB x0 (ix2 k l) = x0 (ix2 k l) := by
  pointwise [tabB, k0_pay1]

theorem cmpi_eq_one {n : ℕ} (a b : BitVec n) : IntOp.cmpi .eq a b = 1#1 ↔ a = b := by
  unfold IntOp.cmpi
  by_cases h : a = b
  · simp [h]
  · simp only [beq_eq_false_iff_ne.2 h, h, iff_false]
    decide

/-- The word of a pixel's row. -/
theorem rowW_eq (ey ex : EReal) :
    IntOp.addi (IntOp.muli (pixW ey) 16#32) (pixW ex) = BitVec.ofNat 32 (row (pix ey, pix ex)).val := by
  rw [pixW_eq, pixW_eq]
  have hy := (pix ey).isLt
  have hx := (pix ex).isLt
  apply BitVec.eq_of_toNat_eq
  show ((BitVec.ofNat 32 (pix ey).val * 16#32) + BitVec.ofNat 32 (pix ex).val).toNat
    = (BitVec.ofNat 32 ((pix ey).val * 16 + (pix ex).val)).toNat
  simp only [BitVec.toNat_add, BitVec.toNat_mul, BitVec.toNat_ofNat]
  omega

/-- A joint's mask names the joint's pixels. -/
theorem names_hot (x0 x1 : Vec Ideal S14x2x512 .f32) (k : ℕ) (hk : k < 14) (l : Fin 512) :
    Names (hot (posB x0 x1) k hk) l (spot (x0 (ix3 ⟨k, hk⟩ 0 l)) (x0 (ix3 ⟨k, hk⟩ 1 l)) (x1 (ix3 ⟨k, hk⟩ 0 l))) := by
  intro p
  rw [hot_apply, cmpi_eq_one, posB_apply, rowW_eq]
  unfold spot
  have hp := p.isLt
  split_ifs with hv
  · have hr := (row (pix (x0 (ix3 ⟨k, hk⟩ 1 l)), pix (x0 (ix3 ⟨k, hk⟩ 0 l)))).isLt
    simp only [Finset.mem_singleton, exists_eq_left]
    constructor
    · intro h
      have h' := congrArg BitVec.toNat h
      simp only [BitVec.toNat_ofNat] at h'
      exact Fin.ext (by omega)
    · intro h; rw [h]
  · simp only [Finset.notMem_empty, false_and, exists_false, iff_false]
    intro h
    have h' := congrArg BitVec.toNat h
    simp only [BitVec.toNat_ofNat] at h'
    omega

/-- The mask of two masks' rows together. -/
theorem names_or {d e : IVec S224x512 1} {l : Fin 512} {A B : Finset (Fin 14 × Fin 14)} (hd : Names d l A)
    (he : Names e l B) : Names (ori d e) l (A ∪ B) := by
  intro p
  have h1 : ∀ a b : BitVec 1, a ||| b = 1#1 ↔ a = 1#1 ∨ b = 1#1 := by decide
  refine (h1 (d (ix2 p l)) (e (ix2 p l))).trans ?_
  rw [hd p, he p]
  simp only [Finset.mem_union]
  constructor
  · rintro (⟨s, hs, h⟩ | ⟨s, hs, h⟩)
    · exact ⟨s, .inl hs, h⟩
    · exact ⟨s, .inr hs, h⟩
  · rintro ⟨s, hs | hs, h⟩
    · exact .inl ⟨s, hs, h⟩
    · exact .inr ⟨s, hs, h⟩

section Sums
variable {T : FVec Ideal S226x224 .bf16} (hT : IsTable T) {pos : IVec S14x512 32} {H : Vec Ideal S18x14x14x512 .f32}
  {l : Fin 512} {J : ℕ → Finset (Fin 14 × Fin 14)} {hr : ℕ → Fin 14 → Fin 14 → ℝ}
  (hJ : ∀ k, J k = ∅ ∨ ∃ s, J k = {s})
  (hpos : ∀ (k : ℕ) (hk : k < 14), Names (hot pos k hk) l (J k))
  (hH : ∀ (c : ℕ) (hc : c < 18) (y x : Fin 14), H (ix4 ⟨c, hc⟩ y x l) = ((hr c y x : ℝ) : EReal))
include hT hpos

include hJ in
/-- A joint's mask in a lane. -/
theorem jointMask_apply (k : ℕ) (hk : k < 14) : jointMask T pos k hk (ix2 0 l) = ((act (chan J k) : ℝ) : EReal) := by
  rw [chan_joint J hk]
  exact maskRow_apply _ l _ (spread_top hT (hpos k hk) (hJ k))

include hJ hH in
/-- A joint's loss in a lane. -/
theorem jointLoss_apply (k : ℕ) (hk : k < 14) :
    jointLoss T pos H k hk (ix2 0 l) = ((term (chan J k) (hr k) : ℝ) : EReal) := by
  rw [chan_joint J hk]
  exact lossRow_apply _ _ _ _ l _ _ (spread_row hT (hpos k hk)) (spread_top hT (hpos k hk) (hJ k))
    (spread_sq hT (hpos k hk) (hJ k)) fun y x => (heat_apply H k (by omega) y x l).trans (hH k (by omega) y x)

/-- A group's mask of rows names the group's pixels. -/
theorem names_hot3 (g : ℕ) (hg : g < 4) : Names (hot3 pos g hg) l (chan J (14 + g)) := by
  rw [chan_group]
  exact names_or (names_or (hpos _ _) (hpos _ _)) (hpos _ _)

/-- A group's mask in a lane. -/
theorem groupMask_apply (g : ℕ) (hg : g < 4) :
    groupMask T pos g hg (ix2 0 l) = ((act (chan J (14 + g)) : ℝ) : EReal) :=
  have hn := names_hot3 hT hpos g hg
  maskRow_apply _ l _ (groupMax_apply (spread_row hT hn) (spread_pad hT hn))

include hH in
/-- A group's loss in a lane. -/
theorem groupLoss_apply (g : ℕ) (hg : g < 4) :
    groupLoss T pos H g hg (ix2 0 l) = ((term (chan J (14 + g)) (hr (14 + g)) : ℝ) : EReal) :=
  have hn := names_hot3 hT hpos g hg
  lossRow_apply _ _ _ _ l _ _ (spread_row hT hn) (groupMax_apply (spread_row hT hn) (spread_pad hT hn))
    (groupSq_apply (spread_row hT hn) (spread_pad hT hn))
    fun y x => (heat_apply H _ (by omega) y x l).trans (hH _ (by omega) y x)

include hJ hH in
/-- The running loss of the joints in a lane. -/
theorem accJ_apply (n : ℕ) (hn : n ≤ 14) :
    accJ T pos H n hn (ix2 0 l) = ((∑ c ∈ range n, term (chan J c) (hr c) : ℝ) : EReal) := by
  induction n with
  | zero =>
    show Ideal.ofBits .f32 0x00000000#32 = _
    rw [Ideal.ofBits_zero_f32, Finset.sum_range_zero, EReal.coe_zero]
  | succ n ih =>
    rw [Finset.sum_range_succ, EReal.coe_add, ← ih (by omega), ← jointLoss_apply hT hJ hpos hH n (by omega)]
    rfl

include hJ in
/-- The running count of the joints in a lane. -/
theorem cntJ_apply (n : ℕ) (hn : n ≤ 14) :
    cntJ T pos n hn (ix2 0 l) = ((∑ c ∈ range n, act (chan J c) : ℝ) : EReal) := by
  induction n with
  | zero =>
    show Ideal.ofBits .f32 0x00000000#32 = _
    rw [Ideal.ofBits_zero_f32, Finset.sum_range_zero, EReal.coe_zero]
  | succ n ih =>
    rw [Finset.sum_range_succ, EReal.coe_add, ← ih (by omega), ← jointMask_apply hT hJ hpos n (by omega)]
    rfl

include hJ hH in
/-- The running loss in a lane, the groups included. -/
theorem accG_apply (n : ℕ) (hn : n ≤ 4) :
    accG T pos H n hn (ix2 0 l) = ((∑ c ∈ range (14 + n), term (chan J c) (hr c) : ℝ) : EReal) := by
  induction n with
  | zero => exact accJ_apply hT hJ hpos hH 14 le_rfl
  | succ n ih =>
    rw [← Nat.add_assoc, Finset.sum_range_succ, EReal.coe_add, ← ih (by omega), ← groupLoss_apply hT hpos hH n (by omega)]
    rfl

include hJ in
/-- The running count in a lane, the groups included. -/
theorem cntG_apply (n : ℕ) (hn : n ≤ 4) :
    cntG T pos n hn (ix2 0 l) = ((∑ c ∈ range (14 + n), act (chan J c) : ℝ) : EReal) := by
  induction n with
  | zero => exact cntJ_apply hT hJ hpos 14 le_rfl
  | succ n ih =>
    rw [← Nat.add_assoc, Finset.sum_range_succ, EReal.coe_add, ← ih (by omega), ← groupMask_apply hT hpos n (by omega)]
    rfl

end Sums

end Cert.Pose
-- ==== Proof.Run.lean ====
/-
  The kernel program's run: what its result holds at the end, from its arguments.
-/
module

public import proofs.«01_k».proof.Proof.Lane
public import proofs.«01_k».proof.Proof.Host
public import Idealize.ShloMosaic.Lib.Claim

@[expose] public section

set_option maxRecDepth 65536

noncomputable section

namespace Cert.Pose

open Idealize.ShloMosaic Idealize.ShloMosaic.TcCoe Idealize.ShloMosaic.Tactic
open Idealize.SL.Sem
open Finset
open Cert.KernelIdeal Cert.KernelIdeal.Gen

variable (m : (ℓ : Loc nD τ sig) → Buf (Elt Ideal) ℓ)

/-- The grid point of an index. -/
def point (t : Fin 8) : Fin cfg0.N := ⟨t.val, by have := N_0; have := t.isLt; show t.val < grid0.N; omega⟩

/-- The batch element of a lane of a grid point. -/
def lane (t : Fin 8) (l : Fin 512) : Fin 4096 := ⟨t.val * 512 + l.val, by omega⟩

/-- The windows' blocks: the last axis moves with the grid, the table's stays, the output's first axis moves. -/
theorem index0 : ∀ t : Fin cfg0.N, win0_0.index t = ![0, 0, t.val] := by decide +kernel
theorem index1 : ∀ t : Fin cfg0.N, win0_1.index t = ![0, 0, t.val] := by decide +kernel
theorem index2 : ∀ t : Fin cfg0.N, win0_2.index t = ![0, 0] := by decide +kernel
theorem index3 : ∀ t : Fin cfg0.N, win0_3.index t = ![0, 0, 0, t.val] := by decide +kernel
theorem index4 : ∀ t : Fin cfg0.N, win0_4.index t = ![t.val, 0, 0] := by decide +kernel

/-- The coordinates' block in a lane is the batch element's coordinates. -/
theorem iblk_coord (c : Dev nD) (t : Fin 8) (k : Fin 14) (e : Fin 2) (l : Fin 512) :
    iblk m c 0 (point t) (ix3 k e l) = m ((c : Thread nD τ).loc main_arg2) (ix3 (lane t l) k e) := by
  have e1 : iblk m c 0 (point t) (ix3 k e l) = V m c main_v1 (ix3 k e (lane t l)) := by
    blk_ext [iblk, index0, point, lane]
  rw [e1, V_coord]
  pointwise

/-- The visibilities' block in a lane is the batch element's visibilities. -/
theorem iblk_vis (c : Dev nD) (t : Fin 8) (k : Fin 14) (e : Fin 2) (l : Fin 512) :
    iblk m c 1 (point t) (ix3 k e l) = m ((c : Thread nD τ).loc main_arg3) (ix3 (lane t l) k e) := by
  have e1 : iblk m c 1 (point t) (ix3 k e l) = V m c main_v2 (ix3 k e (lane t l)) := by
    blk_ext [iblk, index1, point, lane]
  rw [e1, V_vis]
  pointwise

/-- The heatmaps' block in a lane is the batch element's heatmaps. -/
theorem iblk_heat (c : Dev nD) (t : Fin 8) (k : Fin 18) (y x : Fin 14) (l : Fin 512) :
    iblk m c 3 (point t) (ix4 k y x l) = m ((c : Thread nD τ).loc main_arg1) (ix4 (lane t l) k y x) := by
  have e1 : iblk m c 3 (point t) (ix4 k y x l) = V m c main_v0 (ix4 k y x (lane t l)) := by
    blk_ext [iblk, index3, point, lane]
  rw [e1, V_heat]
  pointwise

/-- The table's block is the table. -/
theorem iblk_table (c : Dev nD) (t : Fin 8) (r : Fin 226) (s : Fin 224) :
    iblk m c 2 (point t) (ix2 r s) = tableOf (F := Ideal) (fullOf (passN 9 le_rfl)) (ix2 r s) := by
  have e1 : iblk m c 2 (point t) (ix2 r s) = V m c main_v56 (ix2 r s) := by
    blk_ext [iblk, index2, point]
  rw [e1, V_table]
  rfl

theorem tabB_isTable (c : Dev nD) (t : Fin 8) : IsTable (tabB (iblk m c 2 (point t))) := by
  have e : (tabB (iblk m c 2 (point t)) : S226x224.Idx → EReal) = tableOf (F := Ideal) (fullOf (passN 9 le_rfl)) := by
    funext i
    rw [eq_ix2 i]
    exact (tabB_apply _ _ _).trans (iblk_table m c t _ _)
  rw [e]
  exact isTable

/-- Each grid point's pair of sums is its block of the partial results. -/
theorem arr4 (c : Dev nD) : (dats m 0 c).arrAt 4 cfg0.N = fun i => outsAt0 m c (point (i 0)) (ix3 0 0 (i 2)) := by
  refine (dats m 0 c).arrAt_eq_of_covers 4 _ (by decide +kernel) fun t hf y => ?_
  blk_simp
  rw [after0_4]
  have h0 : point ((win0_4.blk t).view.emb y 0) = t := by
    apply Fin.ext
    show ((win0_4.blk t).view.emb y 0 : ℕ) = t.val
    blk_simp [index4]
  have h1 : (ix3 0 0 ((win0_4.blk t).view.emb y 2) : S1x1x2.Idx) = y := by
    blk_ext [index4]
  rw [h0, h1]

/-- The first word of a grid point's block: its lanes' losses. -/
theorem outs_loss (c : Dev nD) (t : Fin cfg0.N) : outsAt0 m c t (ix3 0 0 0)
    = laneSum (accG (tabB (iblk m c 2 t)) (posB (iblk m c 0 t) (iblk m c 1 t)) (iblk m c 3 t) 4 le_rfl) := by
  rw [outs_pieces]
  have hn : (ix3 0 0 0 : S1x1x2.Idx) ∉ (Rect.unit (s := S1x1x2) ![0, 0, 1] S1x1x1.size inb_S1x1x2_S1x1x1_0_0_1).set := by
    rw [Rect.mem_set_unit]
    intro h
    exact absurd (h 2).1 (by decide)
  have e : (ix3 0 0 0 : S1x1x2.Idx)
      = (Rect.unit (s := S1x1x2) ![0, 0, 0] S1x1x1.size inb_S1x1x2_S1x1x1_0_0_0).emb (ix3 0 0 0) := by
    funext a
    match a with
    | ⟨0, _⟩ => rfl
    | ⟨1, _⟩ => rfl
    | ⟨2, _⟩ => rfl
  rw [View.canon_cons_of_not_mem _ _ hn, e]
  exact View.canon_cons_emb _ _ _ _

/-- The second word of a grid point's block: its lanes' counts. -/
theorem outs_count (c : Dev nD) (t : Fin cfg0.N) : outsAt0 m c t (ix3 0 0 1)
    = laneSum (cntG (tabB (iblk m c 2 t)) (posB (iblk m c 0 t) (iblk m c 1 t)) 4 le_rfl) := by
  rw [outs_pieces]
  have e : (ix3 0 0 1 : S1x1x2.Idx)
      = (Rect.unit (s := S1x1x2) ![0, 0, 1] S1x1x1.size inb_S1x1x2_S1x1x1_0_0_1).emb (ix3 0 0 0) := by
    funext a
    match a with
    | ⟨0, _⟩ => rfl
    | ⟨1, _⟩ => rfl
    | ⟨2, _⟩ => rfl
  rw [e]
  exact View.canon_cons_emb _ _ _ _

/-- A sum over the grid points and their lanes is the sum over the batch. -/
theorem sum_lanes (f : Fin 4096 → ℝ) : ∑ t : Fin 8, ∑ l : Fin 512, f (lane t l) = ∑ b : Fin 4096, f b := by
  rw [← Fintype.sum_prod_type (f := fun s : Fin 8 × Fin 512 => f (lane s.1 s.2))]
  refine Fintype.sum_bijective (fun s : Fin 8 × Fin 512 => lane s.1 s.2) ⟨?_, ?_⟩ _ _ fun _ => rfl
  · rintro ⟨a, b⟩ ⟨c, d⟩ h
    have h' : a.val * 512 + b.val = c.val * 512 + d.val := congrArg Fin.val h
    refine Prod.ext (Fin.ext ?_) (Fin.ext ?_) <;> dsimp only <;> omega
  · intro b
    refine ⟨(⟨b.val / 512, by omega⟩, ⟨b.val % 512, Nat.mod_lt _ (by decide)⟩), Fin.ext ?_⟩
    show b.val / 512 * 512 + b.val % 512 = b.val
    omega

section Values
variable (c : Dev nD)

/-- The masks of the position words of a grid point name the joints' pixels. -/
theorem names_point (t : Fin 8) (l : Fin 512) (k : ℕ) (hk : k < 14) :
    Names (hot (posB (iblk m c 0 (point t)) (iblk m c 1 (point t))) k hk) l
      (joints (m ((c : Thread nD τ).loc main_arg2)) (m ((c : Thread nD τ).loc main_arg3)) (lane t l) k) := by
  unfold joints
  rw [dif_pos hk, ← iblk_coord m c t, ← iblk_coord m c t, ← iblk_vis m c t]
  exact names_hot _ _ k hk l

theorem joints_cases (t v : (⟨3, ![4096, 14, 2]⟩ : Shape).Idx → EReal) (b : Fin 4096) (k : ℕ) :
    joints t v b k = ∅ ∨ ∃ s, joints t v b k = {s} := by
  unfold joints
  split
  · exact spot_cases _ _ _
  · exact .inl rfl

/-- The loss of a grid point. -/
theorem point_loss (hfin : ∀ i : S4096x18x14x14.Idx, ∃ r : ℝ, m ((c : Thread nD τ).loc main_arg1) i = (r : EReal)) (t : Fin 8) :
    outsAt0 m c (point t) (ix3 0 0 0) = ((∑ l : Fin 512, ∑ k ∈ range 18,
      term (chan (joints (m ((c : Thread nD τ).loc main_arg2)) (m ((c : Thread nD τ).loc main_arg3)) (lane t l)) k)
        (hmap (m ((c : Thread nD τ).loc main_arg1)) (lane t l) k) : ℝ) : EReal) := by
  rw [outs_loss, laneSum_apply, coe_sum]
  refine Finset.sum_congr rfl fun l _ => ?_
  refine accG_apply (tabB_isTable m c t) (joints_cases _ _ _) (names_point m c t l) ?_ 4 le_rfl
  intro k hk y x
  obtain ⟨r, hr⟩ := hfin (ix4 (lane t l) ⟨k, hk⟩ y x)
  rw [iblk_heat, hr, hmap, dif_pos hk, hr, EReal.toReal_coe]

/-- The count of a grid point. -/
theorem point_count (t : Fin 8) :
    outsAt0 m c (point t) (ix3 0 0 1) = ((∑ l : Fin 512, ∑ k ∈ range 18,
      act (chan (joints (m ((c : Thread nD τ).loc main_arg2)) (m ((c : Thread nD τ).loc main_arg3)) (lane t l)) k) : ℝ) : EReal) := by
  rw [outs_count, laneSum_apply, coe_sum]
  refine Finset.sum_congr rfl fun l _ => ?_
  exact cntG_apply (tabB_isTable m c t) (joints_cases _ _ _) (names_point m c t l) 4 le_rfl

end Values

/-- The loss: the sum of the masked squared differences over 196 times the number of active channels. -/
def value (h : (⟨4, ![4096, 18, 14, 14]⟩ : Shape).Idx → EReal) (t v : (⟨3, ![4096, 14, 2]⟩ : Shape).Idx → EReal) : EReal :=
  Ideal.div ((lossSum h t v : ℝ) : EReal) ((countSum t v * 196 : ℝ) : EReal)

/-- What the host makes of the partial results: the sum of the losses over 196 times the sum of the counts. -/
def tailOf (A : FVec Ideal S8x1x2 .f32) : FVec Ideal S_ .f32 :=
  Host.divf
    (Host.reduceAdd (shapeCast S8 (extractStridedSlice S8x1x1 ![0, 0, 0] A slices_S8x1x2_S8x1x1_0_0_0) shapeCasts_S8x1x1_S8)
      (constant S_ .f32 0x00000000#32) reducesTo_S8_S_d0 h_S_)
    (mulf
      (Host.reduceAdd (shapeCast S8 (extractStridedSlice S8x1x1 ![0, 0, 1] A slices_S8x1x2_S8x1x1_0_0_1) shapeCasts_S8x1x1_S8)
        (constant S_ .f32 0x00000000#32) reducesTo_S8_S_d0 h_S_)
      (constant S_ .f32 0x43440000#32))

theorem tail (c : Dev nD) : Pipeline.afterTail₀ cfgs (dats m) 0 (V0 m) [hostOps1] c main_v65
    = tailOf ((dats m 0 c).arrAt 4 cfg0.N) := by
  unfold Pipeline.afterTail₀
  simp only [hostOps1, List.flatten_cons, List.flatten_nil, List.append_nil, List.cons_append, List.nil_append]
  after_results
  have e : Pipeline.withArrays (cfgs 0).spec c (V0 m c) (fun w => (dats m 0 c).arrAt w (cfgs 0).N) (Proc.tc.devRef main_v57)
      = (dats m 0 c).arrAt 4 cfg0.N :=
    Pipeline.withArrays_arr spec0 (by decide) c (V0 m c) (fun w => (dats m 0 c).arrAt w (cfgs 0).N) 4
  rw [e]
  rfl

/-- The host's lines after the kernel, on the exact reals. -/
theorem tailOf_apply (A : FVec Ideal S8x1x2 .f32) (i : S_.Idx) : tailOf A i =
    Ideal.div (∑ t : Fin 8, A (ix3 t 0 0)) ((∑ t : Fin 8, A (ix3 t 0 1)) * ((196 : ℝ) : EReal)) := by
  have h : Ideal.ofBits .f32 0x43440000#32 = ((196 : ℝ) : EReal) := by
    simp [Ideal.ofBits, Ideal.ieee, -EReal.coe_mul]; norm_num
  rw [← h]
  pointwise [tailOf]

/-- What the kernel program's result holds at the end, for heatmaps of real numbers. -/
theorem kernel_value (c : Dev nD)
    (hfin : ∀ i : S4096x18x14x14.Idx, ∃ r : ℝ, m ((c : Thread nD τ).loc main_arg1) i = (r : EReal)) (i : S_.Idx) :
    Pipeline.afterTail₀ cfgs (dats m) 0 (V0 m) [hostOps1] c main_v65 i
      = value (m ((c : Thread nD τ).loc main_arg1)) (m ((c : Thread nD τ).loc main_arg2)) (m ((c : Thread nD τ).loc main_arg3)) := by
  rw [tail, tailOf_apply, arr4]
  have e1 : ∑ t : Fin 8, outsAt0 m c (point t) (ix3 0 0 0) = ((lossSum (m ((c : Thread nD τ).loc main_arg1))
      (m ((c : Thread nD τ).loc main_arg2)) (m ((c : Thread nD τ).loc main_arg3)) : ℝ) : EReal) := by
    unfold lossSum
    rw [← sum_lanes, coe_sum]
    exact Finset.sum_congr rfl fun t _ => point_loss m c hfin t
  have e2 : ∑ t : Fin 8, outsAt0 m c (point t) (ix3 0 0 1)
      = ((countSum (m ((c : Thread nD τ).loc main_arg2)) (m ((c : Thread nD τ).loc main_arg3)) : ℝ) : EReal) := by
    unfold countSum
    rw [← sum_lanes, coe_sum]
    exact Finset.sum_congr rfl fun t _ => point_count m c t
  unfold value
  rw [EReal.coe_mul, ← e1, ← e2]
  rfl

end Cert.Pose
-- ==== Proof.RefValue.lean ====
module

public import proofs.«01_k».proof.Proof.RefFilter
public import proofs.«01_k».proof.Proof.Run

@[expose] public section

noncomputable section

namespace Cert.Pose

open Idealize.ShloMosaic Idealize.ShloMosaic.TcCoe Idealize.ShloMosaic.Tactic
open Finset
open Cert.ReferenceIdeal Cert.ReferenceIdeal.Gen Cert.ReferenceIdeal.Read

variable (h : S4096x18x14x14.Idx → EReal) (t v : S4096x14x2.Idx → EReal)

/-- The least value taken off and the quotient by the largest, guarded against zero, where the mask is one. -/
theorem target_core (M32 M109 : FVec Ideal S4096x18x14x14 .f32) (M33 M113 M115 : FVec Ideal S4096x18 .f32)
    (b : Fin 4096) (c : Fin 18) (y x : Fin 14) (S : Finset (Fin 14 × Fin 14))
    (h1 : M32 (ix4 b c y x) = ((ind S y x : ℝ) : EReal)) (h2 : M33 (ix2 b c) = ((act S : ℝ) : EReal))
    (h3 : M109 (ix4 b c y x) = ((blob S y x : ℝ) : EReal)) (h4 : M113 (ix2 b c) = 0)
    (h5 : M115 (ix2 b c) = ((mx S : ℝ) : EReal)) :
    select
      (broadcastInDim S4096x18x14x14 ![0, 1, 2, 3] bcast_S4096x18x1x1_S4096x18x14x14_0_1_2_3
        (cmpf .oeq (broadcastInDim S4096x18x1x1 ![0, 1] bcast_S4096x18_S4096x18x1x1_0_1 M33) (val_main_v111 (F := Ideal))))
      (Host.divf
        (subf M109 (broadcastInDim S4096x18x14x14 ![0, 1, 2, 3] bcast_S4096x18x1x1_S4096x18x14x14_0_1_2_3
          (broadcastInDim S4096x18x1x1 ![0, 1] bcast_S4096x18_S4096x18x1x1_0_1 M113)))
        (broadcastInDim S4096x18x14x14 ![0, 1, 2, 3] bcast_S4096x18x1x1_S4096x18x14x14_0_1_2_3
          (select
            (cmpf .oeq
              (subf (broadcastInDim S4096x18x1x1 ![0, 1] bcast_S4096x18_S4096x18x1x1_0_1 M115)
                (broadcastInDim S4096x18x1x1 ![0, 1] bcast_S4096x18_S4096x18x1x1_0_1 M113)) (val_main_v118 (F := Ideal)))
            (val_main_call5_v1 (F := Ideal))
            (subf (broadcastInDim S4096x18x1x1 ![0, 1] bcast_S4096x18_S4096x18x1x1_0_1 M115)
              (broadcastInDim S4096x18x1x1 ![0, 1] bcast_S4096x18_S4096x18x1x1_0_1 M113)))))
      M32 (ix4 b c y x) = ((target S y x : ℝ) : EReal) := by
  pointwise [val_main_v111, val_main_cst_29, val_main_v118, val_main_cst_32, val_main_call5_v1, val_main_call5_v0, val_main_cst_33]
  rw [h1, h2, h3, h4, h5]
  unfold act target
  by_cases hS : S.Nonempty
  · have hp := (mx_pos_iff S).2 hS
    have hn : (((mx S : ℝ) : EReal) - 0 = 0) ↔ False := by
      rw [sub_zero, ← EReal.coe_zero, EReal.coe_eq_coe_iff]
      exact iff_false_intro hp.ne'
    simp only [hS, if_true, EReal.coe_one, if_false, hn]
    rw [sub_zero, sub_zero, Ideal.div_coe hp.ne', ← EReal.coe_mul]
    congr 1
    ring
  · simp [hS]

/-- The target maps. -/
theorem ref_target (b : Fin 4096) (c : Fin 18) (y x : Fin 14) :
    val_main_v126 (F := Ideal) t v (ix4 b c y x) = ((target (chan (joints t v b) c.val) y x : ℝ) : EReal) :=
  target_core (val_main_v32 (F := Ideal) t v) (val_main_v109 (F := Ideal) t v) (val_main_v33 (F := Ideal) v)
    (val_main_v113 (F := Ideal) t v) (val_main_v115 (F := Ideal) t v) b c y x _ (ref_maps t v b c y x)
    (ref_mask t v b c) (filtered t v b c y x) (least t v b c) (largest t v b c)

/-- The masked differences. -/
theorem diff_core (M126 : FVec Ideal S4096x18x14x14 .f32) (M33 : FVec Ideal S4096x18 .f32)
    (b : Fin 4096) (c : Fin 18) (y x : Fin 14) (p q r : ℝ) (h1 : M126 (ix4 b c y x) = (p : EReal))
    (h2 : M33 (ix2 b c) = (q : EReal)) (h3 : h (ix4 b c y x) = (r : EReal)) :
    mulf (F := Ideal) (φ := .f32) (subf (F := Ideal) (φ := .f32) h M126) (broadcastInDim S4096x18x14x14 ![0, 1, 2, 3] bcast_S4096x18x1x1_S4096x18x14x14_0_1_2_3
        (broadcastInDim S4096x18x1x1 ![0, 1] bcast_S4096x18_S4096x18x1x1_0_1 M33)) (ix4 b c y x)
      = (((r - p) * q : ℝ) : EReal) := by
  pointwise
  rw [h1, h2, h3, EReal.coe_mul, EReal.coe_sub]

theorem ref_diff (hfin : ∀ i, ∃ r : ℝ, h i = (r : EReal)) (b : Fin 4096) (c : Fin 18) (y x : Fin 14) :
    val_main_v130 (F := Ideal) h t v (ix4 b c y x) = (((hmap h b c.val y x - target (chan (joints t v b) c.val) y x)
      * act (chan (joints t v b) c.val) : ℝ) : EReal) := by
  have h3 : h (ix4 b c y x) = ((hmap h b c.val y x : ℝ) : EReal) := by
    obtain ⟨r, hr⟩ := hfin (ix4 b c y x)
    rw [hmap, dif_pos c.isLt, hr, EReal.toReal_coe]
  exact diff_core h (val_main_v126 (F := Ideal) t v) (val_main_v33 (F := Ideal) v) b c y x _ _ _ (ref_target t v b c y x)
    (ref_mask t v b c) h3

/-- The sum of the squares of a tensor of real numbers. -/
theorem loss_core (D : FVec Ideal S4096x18x14x14 .f32) (d : Fin 4096 → ℕ → Fin 14 → Fin 14 → ℝ)
    (hd : ∀ (b : Fin 4096) (c : Fin 18) (y x : Fin 14), D (ix4 b c y x) = ((d b c.val y x : ℝ) : EReal)) (i : S_.Idx) :
    Host.reduceAdd (mulf D D) (val_main_cst_36 (F := Ideal)) reducesTo_S4096x18x14x14_S_d0_1_2_3 h_S_ i
      = ((∑ b : Fin 4096, ∑ c ∈ range 18, ∑ y : Fin 14, ∑ x : Fin 14, d b c y x * d b c y x : ℝ) : EReal) := by
  pointwise [val_main_cst_36]
  rw [Ideal.hostReduceAdd_total _ (fun b => b.elim0), zero_add, sum_idx4, coe_sum]
  refine Finset.sum_congr rfl fun b _ => ?_
  rw [← Fin.sum_univ_eq_sum_range (fun c => ∑ y : Fin 14, ∑ x : Fin 14, d b c y x * d b c y x) 18]
  simp only [coe_sum, EReal.coe_mul]
  refine Finset.sum_congr rfl fun c _ => Finset.sum_congr rfl fun y _ => Finset.sum_congr rfl fun x _ => ?_
  exact congrArg₂ (· * ·) (hd b c y x) (hd b c y x)

/-- The sum of the masked squared differences. -/
theorem ref_loss (hfin : ∀ i, ∃ r : ℝ, h i = (r : EReal)) (i : S_.Idx) :
    val_main_v135 (F := Ideal) h t v i = ((lossSum h t v : ℝ) : EReal) :=
  loss_core (val_main_v130 (F := Ideal) h t v) (fun b c y x => (hmap h b c y x - target (chan (joints t v b) c) y x)
      * act (chan (joints t v b) c)) (ref_diff h t v hfin) i

/-- The two counts added up are the count over the 18 channels. -/
theorem count_core (A : FVec Ideal S4096x14 .f32) (B : FVec Ideal S4096x4 .f32) (a : Fin 4096 → ℕ → ℝ)
    (h1 : ∀ (b : Fin 4096) (k : Fin 14), A (ix2 b k) = ((a b k.val : ℝ) : EReal))
    (h2 : ∀ (b : Fin 4096) (g : Fin 4), B (ix2 b g) = ((a b (14 + g.val) : ℝ) : EReal)) (i : S_.Idx) :
    addf (Host.reduceAdd A (val_main_cst_34 (F := Ideal)) reducesTo_S4096x14_S_d0_1 h_S_)
        (Host.reduceAdd B (val_main_cst_35 (F := Ideal)) reducesTo_S4096x4_S_d0_1 h_S_) i
      = ((∑ b : Fin 4096, ∑ c ∈ range 18, a b c : ℝ) : EReal) := by
  pointwise [val_main_cst_34, val_main_cst_35]
  simp only [h1, h2, ← coe_sum, ← EReal.coe_add, ← Finset.sum_add_distrib]
  refine congrArg Real.toEReal (Finset.sum_congr rfl fun b _ => ?_)
  rw [Fin.sum_univ_eq_sum_range (fun k => a b k) 14, Fin.sum_univ_eq_sum_range (fun g => a b (14 + g)) 4,
    ← Finset.sum_range_add]

/-- The number of active channels. -/
theorem ref_count (i : S_.Idx) : val_main_v133 (F := Ideal) v i = ((countSum t v : ℝ) : EReal) :=
  count_core (val_main_v14 (F := Ideal) v) (val_main_v31 (F := Ideal) v) (fun b c => act (chan (joints t v b) c))
    (fun b k => (ref_vis t v b k).trans (by rw [chan_joint _ k.isLt])) (ref_gvis t v) i

/-- The quotient by 14 times 14 times a count. -/
theorem value_core (A B : FVec Ideal S_ .f32) (i : S_.Idx) (a b : ℝ) (h1 : A i = (a : EReal)) (h2 : B i = (b : EReal)) :
    Host.divf A (mulf (mulf B (val_main_cst_37 (F := Ideal))) (val_main_cst_38 (F := Ideal))) i
      = Ideal.div (a : EReal) ((b * 196 : ℝ) : EReal) := by
  have e : Ideal.ofBits .f32 0x41600000#32 = ((14 : ℝ) : EReal) := by
    simp [Ideal.ofBits, Ideal.ieee, -EReal.coe_mul]; norm_num
  pointwise [val_main_cst_37, val_main_cst_38]
  rw [h1, h2, e, ← EReal.coe_mul, ← EReal.coe_mul]
  norm_num [mul_assoc]

/-- The reference's result, for heatmaps of real numbers. -/
theorem ref_value (hfin : ∀ i, ∃ r : ℝ, h i = (r : EReal)) (i : S_.Idx) : val_main_v138 (F := Ideal) h t v i = value h t v :=
  value_core (val_main_v135 (F := Ideal) h t v) (val_main_v133 (F := Ideal) v) i _ _ (ref_loss h t v hfin i) (ref_count t v i)

end Cert.Pose
-- ==== Proof.Agree.lean ====
/-
  The claims' parts: the precondition says that the heatmaps are real numbers; the reference's frame; and the equation of
  the two programs' results.
-/
module

public import proofs.«01_k».proof.Defs
public import proofs.«01_k».proof.Proof.RefValue
public import proofs.«01_k».proof.Proof.Gen.Pre_finite_heatmaps
public import Idealize.ShloMosaic.Lib.Quiescent
public import Idealize.ShloMosaic.Lib.Claim

@[expose] public section

noncomputable section

namespace Cert.Pose

open Idealize.ShloMosaic Idealize.ShloMosaic.TcCoe Idealize.ShloMosaic.Tactic
open Idealize.SL.Sem

/-- A number whose absolute value is below the greatest is a real number. -/
theorem real_of_abs_lt (x : EReal) (h : FloatOps.cmpf (F := Ideal) (φ := .f32) .olt (FloatOps.hostAbsf (F := Ideal) (φ := .f32) x)
    (Ideal.ofBits .f32 0x7F800000#32) = 1#1) : ∃ r : ℝ, x = (r : EReal) := by
  rw [ofBits_inf] at h
  induction x with
  | coe r => exact ⟨r, rfl⟩
  | top =>
    have h' : BitVec.ofBool (decide (max (⊤ : EReal) (-⊤) < ⊤)) = 1#1 := h
    simp at h'
  | bot =>
    have h' : BitVec.ofBool (decide (max (⊥ : EReal) (-⊥) < ⊤)) = 1#1 := h
    simp at h'

/-- Under the precondition the heatmaps are real numbers. -/
theorem heat_real (m : (ℓ : Loc Cert.KernelIdeal.nD Cert.KernelIdeal.τ Cert.KernelIdeal.sig) → Buf (Elt Ideal) ℓ)
    (hpre : Pre_KernelIdeal_finite_heatmaps m) (c : Dev Cert.KernelIdeal.nD)
    (i : Cert.KernelIdeal.S4096x18x14x14.Idx) : ∃ r : ℝ,
      m ((c.tc : Thread Cert.KernelIdeal.nD Cert.KernelIdeal.τ).loc Cert.KernelIdeal.main_arg1) i = (r : EReal) :=
  real_of_abs_lt _ (congrFun (hpre c) i)

/-- The reference's frame: its arguments end unchanged; it has no semaphore. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2, sem_eq_zero_of_no_sems (by decide) r.2⟩) (Cert.ReferenceIdeal.Value.run m g)

/-- The two programs compute the same loss over the extended reals. -/
theorem algebraic : algebraic_KernelIdeal_ReferenceIdeal_pre_finite_heatmaps := by
  intro m g m' g' hpre hagree
  refine ⟨fun c _ => value (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run _ _ _).mono (fun r h c => ⟨?_, h.2 c⟩)
      (θ_run_and (Cert.KernelIdeal.Gen.run_main m g) (Cert.KernelIdeal.Gen.unchanged m g))
    refine ((h.1 c).2 Cert.KernelIdeal.main_v65 (Pipeline.mem_restRefs_of _ (by decide) (by decide))).trans ?_
    funext i
    exact kernel_value m c (heat_real m hpre c) i
  · refine (θ_run _ _ _).mono (fun r h c => ⟨?_, (h c).2⟩) (Cert.ReferenceIdeal.Value.run m' g')
    refine (h c).1.trans ((Cert.ReferenceIdeal.Read.val_main_v138_eq _).trans ?_)
    funext i
    have e1 : StableHlo.launchContents m' c (Proc.tc.devRef Cert.ReferenceIdeal.main_arg1)
        = m ((c.tc : Thread Cert.KernelIdeal.nD Cert.KernelIdeal.τ).loc Cert.KernelIdeal.main_arg1) := (hagree c).2.1
    have e2 : StableHlo.launchContents m' c (Proc.tc.devRef Cert.ReferenceIdeal.main_arg2)
        = m ((c.tc : Thread Cert.KernelIdeal.nD Cert.KernelIdeal.τ).loc Cert.KernelIdeal.main_arg2) := (hagree c).2.2.1
    have e3 : StableHlo.launchContents m' c (Proc.tc.devRef Cert.ReferenceIdeal.main_arg3)
        = m ((c.tc : Thread Cert.KernelIdeal.nD Cert.KernelIdeal.τ).loc Cert.KernelIdeal.main_arg3) := (hagree c).2.2.2
    rw [e1, e2, e3]
    exact ref_value _ _ _ (heat_real m hpre c) i

end Cert.Pose
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_heatmaps
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Every claim: the frames, generated for the kernel and read off its run for the reference; the idealized kernel, in
    which nothing was rewritten; and the equality of the two losses. -/
theorem claim : Cert.Claim :=
  ⟨Cert.Kernel.Gen.facts, Cert.KernelIdeal.Gen.facts, Cert.ReferenceIdeal.Gen.facts, Cert.Pre_finite_heatmaps.Gen.facts,
    fun m g _ => Cert.Kernel.Gen.frame m g,
    fun m g _ => Cert.KernelIdeal.Gen.frame m g,
    fun m g _ => Cert.KernelIdeal.Gen.frame m g,
    fun m g _ => Cert.Pose.ref_frame m g,
    fun m g _ => Cert.Pose.ref_frame m g,
    trivial, Cert.Pose.algebraic⟩

end Cert.Proof

end
